-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v61) = v0 c
          ∧ r.2.mem ((c.tc : Thread Cert.Reference3Ideal.nD Cert.Reference3Ideal.τ).loc Cert.Reference3Ideal.main_v62) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v25) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_scores.lean ====
abbrev S8192x14848 : Shape := ⟨2, ![8192, 14848]⟩
abbrev S32 : Shape := ⟨1, ![32]⟩
abbrev S8192x2048 : Shape := ⟨2, ![8192, 2048]⟩
abbrev S8192x256 : Shape := ⟨2, ![8192, 256]⟩
abbrev S_ : Shape := ⟨0, ![]⟩

class Facts : Prop where
  slices_S8192x14848_S8192x2048_0_0 : S8192x14848.Slices ![0, 0] S8192x2048
  slices_S8192x14848_S8192x256_0_14336 : S8192x14848.Slices ![0, 14336] S8192x256
  bcast_S_S8192x2048 : S_.BroadcastsInDim S8192x2048 (![] : Fin 0 → Fin S8192x2048.rank)
  bcast_S_S8192x256 : S_.BroadcastsInDim S8192x256 (![] : Fin 0 → Fin S8192x256.rank)
  bcast_S_S32 : S_.BroadcastsInDim S32 (![] : Fin 0 → Fin S32.rank)

variable [Facts]

def fn {F : FTy → Type} [FloatOps F] (main_arg0 : FVec F S8192x14848 .bf16) (main_arg1 : FVec F S32 .f32) : IVec S8192x2048 1 × IVec S8192x256 1 × IVec S32 1 :=
  let main_v0 : FVec F S8192x2048 .bf16 := (extractStridedSlice S8192x2048 ![0, 0] · slices_S8192x14848_S8192x2048_0_0) main_arg0
  let main_v1 : FVec F S8192x256 .bf16 := (extractStridedSlice S8192x256 ![0, 14336] · slices_S8192x14848_S8192x256_0_14336) main_arg0
  let main_cst : FVec F S_ .bf16 := constant S_ .bf16 0xFF80#16
  let main_v2 : FVec F S8192x2048 .bf16 := broadcastInDim S8192x2048 ![] bcast_S_S8192x2048 main_cst
  let main_v3 : IVec S8192x2048 1 := cmpf .ogt main_v0 main_v2
  let main_cst_0 : FVec F S_ .bf16 := constant S_ .bf16 0x7F80#16
  let main_v4 : FVec F S8192x2048 .bf16 := broadcastInDim S8192x2048 ![] bcast_S_S8192x2048 main_cst_0
  let main_v5 : IVec S8192x2048 1 := cmpf .olt main_v0 main_v4
  let main_v6 : IVec S8192x2048 1 := andi main_v3 main_v5
  let main_cst_1 : FVec F S_ .bf16 := constant S_ .bf16 0xFF80#16
  let main_v7 : FVec F S8192x256 .bf16 := broadcastInDim S8192x256 ![] bcast_S_S8192x256 main_cst_1
  let main_v8 : IVec S8192x256 1 := cmpf .ogt main_v1 main_v7
  let main_cst_2 : FVec F S_ .bf16 := constant S_ .bf16 0x7F80#16
  let main_v9 : FVec F S8192x256 .bf16 := broadcastInDim S8192x256 ![] bcast_S_S8192x256 main_cst_2
  let main_v10 : IVec S8192x256 1 := cmpf .olt main_v1 main_v9
  let main_v11 : IVec S8192x256 1 := andi main_v8 main_v10
  let main_cst_3 : FVec F S_ .f32 := constant S_ .f32 0x7F800000#32
  let main_v12 : FVec F S32 .f32 := broadcastInDim S32 ![] bcast_S_S32 main_cst_3
  let main_v13 : IVec S32 1 := cmpf .olt main_arg1 main_v12
  (main_v6, main_v11, main_v13)
-- ==== Kernel.lean ====
abbrev S8192x14848 : Shape := ⟨2, ![8192, 14848]⟩
abbrev S32 : Shape := ⟨1, ![32]⟩
abbrev S8192x2048 : Shape := ⟨2, ![8192, 2048]⟩
abbrev S128x2048 : Shape := ⟨2, ![128, 2048]⟩
abbrev S128x512 : Shape := ⟨2, ![128, 512]⟩
abbrev S128x256 : Shape := ⟨2, ![128, 256]⟩
abbrev S128x64 : Shape := ⟨2, ![128, 64]⟩
abbrev S256x64 : Shape := ⟨2, ![256, 64]⟩
abbrev S1 : Shape := ⟨1, ![1]⟩
abbrev S128 : Shape := ⟨1, ![128]⟩
abbrev S128x1 : Shape := ⟨2, ![128, 1]⟩

abbrev nBuf : Space → Nat
  | .hbm => 3
  | .vmem => 8
  | .smem => 1
  | _ => 0

abbrev bufTy : (tb : Table) → Fin (tcTables nBuf tb) → BufTy
  | .hbm, ⟨0, _⟩ => ⟨S8192x14848, .bf16⟩
  | .hbm, ⟨1, _⟩ => ⟨S32, .f32⟩
  | .hbm, ⟨2, _⟩ => ⟨S8192x2048, .bf16⟩
  | .local _ .vmem, ⟨0, _⟩ => ⟨S128x2048, .bf16⟩
  | .local _ .vmem, ⟨1, _⟩ => ⟨S128x2048, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x2048, .bf16⟩
  | .local _ .vmem, ⟨7, _⟩ => ⟨S128x2048, .bf16⟩
  | .local _ .smem, ⟨0, _⟩ => ⟨S32, .f32⟩
  | _, _ => ⟨S8192x14848, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c28_i32 : BitVec 32 := 28#32
  let c0_i32_0 : BitVec 32 := 0#32
  ![v3.toNat, c28_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c28_i32 : BitVec 32 := 28#32
  let c0_i32 : BitVec 32 := 0#32
  ![v1.toNat, c28_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x14848 : Shape := ⟨2, ![8192, 14848]⟩
abbrev S32 : Shape := ⟨1, ![32]⟩
abbrev S8192x2048 : Shape := ⟨2, ![8192, 2048]⟩
abbrev S2x4096x4x8x64 : Shape := ⟨5, ![2, 4096, 4, 8, 64]⟩
abbrev S8192x256 : Shape := ⟨2, ![8192, 256]⟩
abbrev S2x4096x4x64 : Shape := ⟨4, ![2, 4096, 4, 64]⟩
abbrev S2x32x128x4x8x64 : Shape := ⟨6, ![2, 32, 128, 4, 8, 64]⟩
abbrev S2x32x128x4x64 : Shape := ⟨5, ![2, 32, 128, 4, 64]⟩
abbrev S2x1x128x4x64 : Shape := ⟨5, ![2, 1, 128, 4, 64]⟩
abbrev S_ : Shape := ⟨0, ![]⟩
abbrev S2x31x128x4x64 : Shape := ⟨5, ![2, 31, 128, 4, 64]⟩
abbrev S2x32x256x4x64 : Shape := ⟨5, ![2, 32, 256, 4, 64]⟩
abbrev S2x32x4x256x128x8 : Shape := ⟨6, ![2, 32, 4, 256, 128, 8]⟩
abbrev S2x32x4x8x128x256 : Shape := ⟨6, ![2, 32, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S4x8 : Shape := ⟨2, ![4, 8]⟩
abbrev S1x1x4x8x1x1 : Shape := ⟨6, ![1, 1, 4, 8, 1, 1]⟩
abbrev S2x32x4x8x128 : Shape := ⟨5, ![2, 32, 4, 8, 128]⟩
abbrev S2x32x4x8x128x1 : Shape := ⟨6, ![2, 32, 4, 8, 128, 1]⟩
abbrev S2x32x4x64x8x128 : Shape := ⟨6, ![2, 32, 4, 64, 8, 128]⟩

abbrev nBuf : Space → Nat
  | .hbm => 88
  | .vmem => 0
  | .smem => 0
  | _ => 0

abbrev bufTy : (tb : Table) → Fin (tcTables nBuf tb) → BufTy
  | .hbm, ⟨0, _⟩ => ⟨S8192x14848, .bf16⟩
  | .hbm, ⟨1, _⟩ => ⟨S32, .f32⟩
  | .hbm, ⟨2, _⟩ => ⟨S8192x14848, .f32⟩
  | .hbm, ⟨3, _⟩ => ⟨S8192x2048, .f32⟩
  | .hbm, ⟨4, _⟩ => ⟨S2x4096x4x8x64, .f32⟩
  | .hbm, ⟨5, _⟩ => ⟨S8192x256, .f32⟩
  | .hbm, ⟨6, _⟩ => ⟨S2x4096x4x64, .f32⟩
  | .hbm, ⟨7, _⟩ => ⟨S8192x256, .f32⟩
  | .hbm, ⟨8, _⟩ => ⟨S2x4096x4x64, .f32⟩
  | .hbm, ⟨9, _⟩ => ⟨S2x32x128x4x8x64, .f32⟩
  | .hbm, ⟨10, _⟩ => ⟨S2x32x128x4x64, .f32⟩
  | .hbm, ⟨11, _⟩ => ⟨S2x1x128x4x64, .f32⟩
  | .hbm, ⟨12, _⟩ => ⟨S_, .f32⟩
  | .hbm, ⟨13, _⟩ => ⟨S2x1x128x4x64, .f32⟩
  | .hbm, ⟨14, _⟩ => ⟨S2x31x128x4x64, .f32⟩
  | .hbm, ⟨15, _⟩ => ⟨S2x32x128x4x64, .f32⟩
  | .hbm, ⟨16, _⟩ => ⟨S2x32x256x4x64, .f32⟩
  | .hbm, ⟨17, _⟩ => ⟨S2x32x128x4x64, .f32⟩
  | .hbm, ⟨18, _⟩ => ⟨S2x1x128x4x64, .f32⟩
  | .hbm, ⟨19, _⟩ => ⟨S_, .f32⟩
  | .hbm, ⟨20, _⟩ => ⟨S2x1x128x4x64, .f32⟩
  | .hbm, ⟨21, _⟩ => ⟨S2x31x128x4x64, .f32⟩
  | .hbm, ⟨22, _⟩ => ⟨S2x32x128x4x64, .f32⟩
  | .hbm, ⟨23, _⟩ => ⟨S2x32x256x4x64, .f32⟩
  | .hbm, ⟨24, _⟩ => ⟨S2x32x4x256x128x8, .f32⟩
  | .hbm, ⟨25, _⟩ => ⟨S2x32x4x8x128x256, .f32⟩
  | .hbm, ⟨26, _⟩ => ⟨S_, .f32⟩
  | .hbm, ⟨27, _⟩ => ⟨S2x32x4x8x128x256, .f32⟩
  | .hbm, ⟨28, _⟩ => ⟨S2x32x4x8x128x256, .f32⟩
  | .hbm, ⟨29, _⟩ => ⟨S128, .i32⟩
  | .hbm, ⟨30, _⟩ => ⟨S128x1, .i32⟩
  | .hbm, ⟨31, _⟩ => ⟨S256, .i32⟩
  | .hbm, ⟨32, _⟩ => ⟨S1x256, .i32⟩
  | .hbm, ⟨33, _⟩ => ⟨S128x256, .i32⟩
  | .hbm, ⟨34, _⟩ => ⟨S128x256, .i32⟩
  | .hbm, ⟨35, _⟩ => ⟨S128x256, .i1⟩
  | .hbm, ⟨36, _⟩ => ⟨S_, .i32⟩
  | .hbm, ⟨37, _⟩ => ⟨S128x1, .i32⟩
  | .hbm, ⟨38, _⟩ => ⟨S128x1, .i32⟩
  | .hbm, ⟨39, _⟩ => ⟨S128x256, .i32⟩
  | .hbm, ⟨40, _⟩ => ⟨S128x256, .i32⟩
  | .hbm, ⟨41, _⟩ => ⟨S128x256, .i1⟩
  | .hbm, ⟨42, _⟩ => ⟨S128x256, .i1⟩
  | .hbm, ⟨43, _⟩ => ⟨S32, .i32⟩
  | .hbm, ⟨44, _⟩ => ⟨S_, .i32⟩
  | .hbm, ⟨45, _⟩ => ⟨S32, .i32⟩
  | .hbm, ⟨46, _⟩ => ⟨S32, .i1⟩
  | .hbm, ⟨47, _⟩ => ⟨S32x1x1, .i1⟩
  | .hbm, ⟨48, _⟩ => ⟨S_, .i32⟩
  | .hbm, ⟨49, _⟩ => ⟨S1x256, .i32⟩
  | .hbm, ⟨50, _⟩ => ⟨S1x256, .i1⟩
  | .hbm, ⟨51, _⟩ => ⟨S1x1x256, .i1⟩
  | .hbm, ⟨52, _⟩ => ⟨S32x1x256, .i1⟩
  | .hbm, ⟨53, _⟩ => ⟨S32x1x256, .i1⟩
  | .hbm, ⟨54, _⟩ => ⟨S32x1x256, .i1⟩
  | .hbm, ⟨55, _⟩ => ⟨S1x128x256, .i1⟩
  | .hbm, ⟨56, _⟩ => ⟨S32x128x256, .i1⟩
  | .hbm, ⟨57, _⟩ => ⟨S32x128x256, .i1⟩
  | .hbm, ⟨58, _⟩ => ⟨S32x128x256, .i1⟩
  | .hbm, ⟨59, _⟩ => ⟨S1x32x1x1x128x256, .i1⟩
  | .hbm, ⟨60, _⟩ => ⟨S_, .f32⟩
  | .hbm, ⟨61, _⟩ => ⟨S_, .f32⟩
  | .hbm, ⟨62, _⟩ => ⟨S2x32x4x8x128x256, .i1⟩
  | .hbm, ⟨63, _⟩ => ⟨S2x32x4x8x128x256, .f32⟩
  | .hbm, ⟨64, _⟩ => ⟨S2x32x4x8x128x256, .f32⟩
  | .hbm, ⟨65, _⟩ => ⟨S4x8, .f32⟩
  | .hbm, ⟨66, _⟩ => ⟨S1x1x4x8x1x1, .f32⟩
  | .hbm, ⟨67, _⟩ => ⟨S_, .f32⟩
  | .hbm, ⟨68, _⟩ => ⟨S2x32x4x8x128, .f32⟩
  | .hbm, ⟨69, _⟩ => ⟨S2x32x4x8x128x1, .f32⟩
  | .hbm, ⟨70, _⟩ => ⟨S2x32x4x8x128x1, .f32⟩
  | .hbm, ⟨71, _⟩ => ⟨S2x32x4x8x128x1, .f32⟩
  | .hbm, ⟨72, _⟩ => ⟨S2x32x4x8x128x256, .f32⟩
  | .hbm, ⟨73, _⟩ => ⟨S2x32x4x8x128x256, .f32⟩
  | .hbm, ⟨74, _⟩ => ⟨S2x32x4x8x128x256, .f32⟩
  | .hbm, ⟨75, _⟩ => ⟨S_, .f32⟩
  | .hbm, ⟨76, _⟩ => ⟨S2x32x4x8x128, .f32⟩
  | .hbm, ⟨77, _⟩ => ⟨S2x32x4x8x128x1, .f32⟩
  | .hbm, ⟨78, _⟩ => ⟨S2x32x4x8x128x1, .f32⟩
  | .hbm, ⟨79, _⟩ => ⟨S2x32x4x8x128x1, .f32⟩
  | .hbm, ⟨80, _⟩ => ⟨S2x32x4x8x128x1, .f32⟩
  | .hbm, ⟨81, _⟩ => ⟨S2x32x4x8x128x1, .f32⟩
  | .hbm, ⟨82, _⟩ => ⟨S2x32x4x8x128x256, .f32⟩
  | .hbm, ⟨83, _⟩ => ⟨S2x32x4x8x128x256, .f32⟩
  | .hbm, ⟨84, _⟩ => ⟨S2x32x4x64x8x128, .f32⟩
  | .hbm, ⟨85, _⟩ => ⟨S2x32x128x4x8x64, .f32⟩
  | .hbm, ⟨86, _⟩ => ⟨S8192x2048, .f32⟩
  | .hbm, ⟨87, _⟩ => ⟨S8192x2048, .bf16⟩
  | _, _ => ⟨S8192x14848, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_c : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_c_2 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_c_3 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_4 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_5 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_6 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩

abbrev nD : Nat := 1
abbrev τ : Topo := Topo.v7x

variable {F : FTy → Type} [FloatOps F]
-- ==== Kernel2.lean ====
abbrev S8192x2048 : Shape := ⟨2, ![8192, 2048]⟩
abbrev S1x2048 : Shape := ⟨2, ![1, 2048]⟩
abbrev S2x6x2048 : Shape := ⟨3, ![2, 6, 2048]⟩
abbrev S2048x14848 : Shape := ⟨2, ![2048, 14848]⟩
abbrev S8192x14848 : Shape := ⟨2, ![8192, 14848]⟩
abbrev S1024x2048 : Shape := ⟨2, ![1024, 2048]⟩
abbrev S1x6x2048 : Shape := ⟨3, ![1, 6, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩
abbrev S1x1x2048 : Shape := ⟨3, ![1, 1, 2048]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2x6x2048, .f32⟩
  | .hbm, ⟨3, _⟩ => ⟨S2048x14848, .f32⟩
  | .hbm, ⟨4, _⟩ => ⟨S8192x14848, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S2048x512, .f32⟩
  | .local _ .vmem, ⟨6, _⟩ => ⟨S2048x512, .f32⟩
  | .local _ .vmem, ⟨7, _⟩ => ⟨S1024x512, .bf16⟩
  | .local _ .vmem, ⟨8, _⟩ => ⟨S1024x512, .bf16⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 29], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c4_i32_0 : BitVec 32 := 4#32
  let v1 : BitVec 1 := Scalar.cmpi .eq arg1 c4_i32_0
  let c1_i32 : BitVec 32 := 1#32
  let v2 : BitVec 32 := Scalar.subi arg1 c1_i32
  let c28_i32 : BitVec 32 := 28#32
  let v3 : BitVec 32 := Scalar.select v1 c28_i32 v2
  let v4 : BitVec 32 := Scalar.select v0 arg1 v3
  let c0_i32 : BitVec 32 := 0#32
  ![arg0.toNat, v4.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8192x2048 : Shape := ⟨2, ![8192, 2048]⟩
abbrev S1x2048 : Shape := ⟨2, ![1, 2048]⟩
abbrev S2x6x2048 : Shape := ⟨3, ![2, 6, 2048]⟩
abbrev S2048x14848 : Shape := ⟨2, ![2048, 14848]⟩
abbrev S2x4096x2048 : Shape := ⟨3, ![2, 4096, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x1x2048 : Shape := ⟨3, ![2, 1, 2048]⟩
abbrev S2x2048 : Shape := ⟨2, ![2, 2048]⟩
abbrev S2x4096x14848 : Shape := ⟨3, ![2, 4096, 14848]⟩
abbrev S2x4096x12288 : Shape := ⟨3, ![2, 4096, 12288]⟩
abbrev S2x4096x512 : Shape := ⟨3, ![2, 4096, 512]⟩
abbrev S8192x14848 : Shape := ⟨2, ![8192, 14848]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2x6x2048, .f32⟩
  | .hbm, ⟨3, _⟩ => ⟨S2048x14848, .f32⟩
  | .hbm, ⟨4, _⟩ => ⟨S2x4096x2048, .f32⟩
  | .hbm, ⟨5, _⟩ => ⟨S2048, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S2x1x2048, .f32⟩
  | .hbm, ⟨23, _⟩ => ⟨S2x2048, .f32⟩
  | .hbm, ⟨24, _⟩ => ⟨S2x1x2048, .f32⟩
  | .hbm, ⟨25, _⟩ => ⟨S2x2048, .f32⟩
  | .hbm, ⟨26, _⟩ => ⟨S2x1x2048, .f32⟩
  | .hbm, ⟨27, _⟩ => ⟨S_, .f32⟩
  | .hbm, ⟨28, _⟩ => ⟨S2x1x2048, .f32⟩
  | .hbm, ⟨29, _⟩ => ⟨S2x1x2048, .f32⟩
  | .hbm, ⟨30, _⟩ => ⟨S2x4096x2048, .f32⟩
  | .hbm, ⟨31, _⟩ => ⟨S2x4096x2048, .f32⟩
  | .hbm, ⟨32, _⟩ => ⟨S2x1x2048, .f32⟩
  | .hbm, ⟨33, _⟩ => ⟨S2x4096x2048, .f32⟩
  | .hbm, ⟨34, _⟩ => ⟨S2x4096x2048, .f32⟩
  | .hbm, ⟨35, _⟩ => ⟨S2x4096x14848, .f32⟩
  | .hbm, ⟨36, _⟩ => ⟨S2x4096x2048, .f32⟩
  | .hbm, ⟨37, _⟩ => ⟨S2x4096x12288, .f32⟩
  | .hbm, ⟨38, _⟩ => ⟨S2x4096x512, .f32⟩
  | .hbm, ⟨39, _⟩ => ⟨S2x4096x14848, .f32⟩
  | .hbm, ⟨40, _⟩ => ⟨S8192x14848, .f32⟩
  | .hbm, ⟨41, _⟩ => ⟨S8192x14848, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Kernel3.lean ====
abbrev S8192x2048 : Shape := ⟨2, ![8192, 2048]⟩
abbrev S8192x14848 : Shape := ⟨2, ![8192, 14848]⟩
abbrev S2x6x2048 : Shape := ⟨3, ![2, 6, 2048]⟩
abbrev S1x2048 : Shape := ⟨2, ![1, 2048]⟩
abbrev S2048x2048 : Shape := ⟨2, ![2048, 2048]⟩
abbrev S2048x128 : Shape := ⟨2, ![2048, 128]⟩
abbrev S1x128 : Shape := ⟨2, ![1, 128]⟩
abbrev S8192x128 : Shape := ⟨2, ![8192, 128]⟩
abbrev S256x2048 : Shape := ⟨2, ![256, 2048]⟩
abbrev S1x6x2048 : Shape := ⟨3, ![1, 6, 2048]⟩
abbrev S256x128 : Shape := ⟨2, ![256, 128]⟩
abbrev S1x1x2048 : Shape := ⟨3, ![1, 1, 2048]⟩
abbrev S256 : Shape := ⟨1, ![256]⟩
abbrev S256x1 : Shape := ⟨2, ![256, 1]⟩

abbrev nBuf : Space → Nat
  | .hbm => 14
  | .vmem => 24
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x14848, .bf16⟩
  | .hbm, ⟨3, _⟩ => ⟨S8192x2048, .f32⟩
  | .hbm, ⟨4, _⟩ => ⟨S2x6x2048, .f32⟩
  | .hbm, ⟨5, _⟩ => ⟨S1x2048, .f32⟩
  | .hbm, ⟨6, _⟩ => ⟨S2048x2048, .bf16⟩
  | .hbm, ⟨7, _⟩ => ⟨S2048x2048, .bf16⟩
  | .hbm, ⟨8, _⟩ => ⟨S2048x2048, .bf16⟩
  | .hbm, ⟨9, _⟩ => ⟨S2048x128, .f32⟩
  | .hbm, ⟨10, _⟩ => ⟨S1x128, .f32⟩
  | .hbm, ⟨11, _⟩ => ⟨S8192x2048, .f32⟩
  | .hbm, ⟨12, _⟩ => ⟨S8192x2048, .f32⟩
  | .hbm, ⟨13, _⟩ => ⟨S8192x128, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S1x6x2048, .f32⟩
  | .local _ .vmem, ⟨11, _⟩ => ⟨S1x6x2048, .f32⟩
  | .local _ .vmem, ⟨12, _⟩ => ⟨S1x2048, .f32⟩
  | .local _ .vmem, ⟨13, _⟩ => ⟨S2048x2048, .bf16⟩
  | .local _ .vmem, ⟨14, _⟩ => ⟨S2048x2048, .bf16⟩
  | .local _ .vmem, ⟨15, _⟩ => ⟨S2048x2048, .bf16⟩
  | .local _ .vmem, ⟨16, _⟩ => ⟨S2048x128, .f32⟩
  | .local _ .vmem, ⟨17, _⟩ => ⟨S1x128, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S256x128, .f32⟩
  | .local _ .vmem, ⟨23, _⟩ => ⟨S256x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S8192x2048 : Shape := ⟨2, ![8192, 2048]⟩
abbrev S8192x14848 : Shape := ⟨2, ![8192, 14848]⟩
abbrev S2x6x2048 : Shape := ⟨3, ![2, 6, 2048]⟩
abbrev S1x2048 : Shape := ⟨2, ![1, 2048]⟩
abbrev S2048x2048 : Shape := ⟨2, ![2048, 2048]⟩
abbrev S2048x128 : Shape := ⟨2, ![2048, 128]⟩
abbrev S1x128 : Shape := ⟨2, ![1, 128]⟩
abbrev S_ : Shape := ⟨0, ![]⟩
abbrev S2x4096x2048 : Shape := ⟨3, ![2, 4096, 2048]⟩
abbrev S2x1x2048 : Shape := ⟨3, ![2, 1, 2048]⟩
abbrev S2x2048 : Shape := ⟨2, ![2, 2048]⟩
abbrev S2048 : Shape := ⟨1, ![2048]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 82
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x14848, .bf16⟩
  | .hbm, ⟨3, _⟩ => ⟨S8192x2048, .f32⟩
  | .hbm, ⟨4, _⟩ => ⟨S2x6x2048, .f32⟩
  | .hbm, ⟨5, _⟩ => ⟨S1x2048, .f32⟩
  | .hbm, ⟨6, _⟩ => ⟨S2048x2048, .bf16⟩
  | .hbm, ⟨7, _⟩ => ⟨S2048x2048, .bf16⟩
  | .hbm, ⟨8, _⟩ => ⟨S2048x2048, .bf16⟩
  | .hbm, ⟨9, _⟩ => ⟨S2048x128, .f32⟩
  | .hbm, ⟨10, _⟩ => ⟨S1x128, .f32⟩
  | .hbm, ⟨11, _⟩ => ⟨S8192x2048, .bf16⟩
  | .hbm, ⟨12, _⟩ => ⟨S8192x2048, .f32⟩
  | .hbm, ⟨13, _⟩ => ⟨S8192x2048, .bf16⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S2048x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S2048x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S2048x2048, .f32⟩
  | .hbm, ⟨41, _⟩ => ⟨S8192x2048, .f32⟩
  | .hbm, ⟨42, _⟩ => ⟨S2x4096x2048, .f32⟩
  | .hbm, ⟨43, _⟩ => ⟨S2x4096x2048, .f32⟩
  | .hbm, ⟨44, _⟩ => ⟨S2x1x2048, .f32⟩
  | .hbm, ⟨45, _⟩ => ⟨S2x2048, .f32⟩
  | .hbm, ⟨46, _⟩ => ⟨S2x1x2048, .f32⟩
  | .hbm, ⟨47, _⟩ => ⟨S2x4096x2048, .f32⟩
  | .hbm, ⟨48, _⟩ => ⟨S2x4096x2048, .f32⟩
  | .hbm, ⟨49, _⟩ => ⟨S2x4096x2048, .f32⟩
  | .hbm, ⟨50, _⟩ => ⟨S2048, .f32⟩
  | .hbm, ⟨51, _⟩ => ⟨S2x4096x2048, .f32⟩
  | .hbm, ⟨52, _⟩ => ⟨S_, .f32⟩
  | .hbm, ⟨53, _⟩ => ⟨S2x4096, .f32⟩
  | .hbm, ⟨54, _⟩ => ⟨S2x4096x1, .f32⟩
  | .hbm, ⟨55, _⟩ => ⟨S_, .f32⟩
  | .hbm, ⟨56, _⟩ => ⟨S2x4096x1, .f32⟩
  | .hbm, ⟨57, _⟩ => ⟨S2x4096x1, .f32⟩
  | .hbm, ⟨58, _⟩ => ⟨S_, .f32⟩
  | .hbm, ⟨59, _⟩ => ⟨S2x4096x1, .f32⟩
  | .hbm, ⟨60, _⟩ => ⟨S2x4096x1, .f32⟩
  | .hbm, ⟨61, _⟩ => ⟨S2x4096x1, .f32⟩
  | .hbm, ⟨62, _⟩ => ⟨S2x4096x2048, .f32⟩
  | .hbm, ⟨63, _⟩ => ⟨S2x4096x2048, .f32⟩
  | .hbm, ⟨64, _⟩ => ⟨S1x1x2048, .f32⟩
  | .hbm, ⟨65, _⟩ => ⟨S2x4096x2048, .f32⟩
  | .hbm, ⟨66, _⟩ => ⟨S2x4096x2048, .f32⟩
  | .hbm, ⟨67, _⟩ => ⟨S2x1x2048, .f32⟩
  | .hbm, ⟨68, _⟩ => ⟨S2x2048, .f32⟩
  | .hbm, ⟨69, _⟩ => ⟨S2x1x2048, .f32⟩
  | .hbm, ⟨70, _⟩ => ⟨S2x2048, .f32⟩
  | .hbm, ⟨71, _⟩ => ⟨S2x1x2048, .f32⟩
  | .hbm, ⟨72, _⟩ => ⟨S_, .f32⟩
  | .hbm, ⟨73, _⟩ => ⟨S2x1x2048, .f32⟩
  | .hbm, ⟨74, _⟩ => ⟨S2x1x2048, .f32⟩
  | .hbm, ⟨75, _⟩ => ⟨S2x4096x2048, .f32⟩
  | .hbm, ⟨76, _⟩ => ⟨S2x4096x2048, .f32⟩
  | .hbm, ⟨77, _⟩ => ⟨S2x1x2048, .f32⟩
  | .hbm, ⟨78, _⟩ => ⟨S2x4096x2048, .f32⟩
  | .hbm, ⟨79, _⟩ => ⟨S2x4096x2048, .f32⟩
  | .hbm, ⟨80, _⟩ => ⟨S8192x2048, .f32⟩
  | .hbm, ⟨81, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_6 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩

abbrev nD : Nat := 1
abbrev τ : Topo := Topo.v7x

variable {F : FTy → Type} [FloatOps F]
-- ==== Kernel4.lean ====
abbrev S8x2048 : Shape := ⟨2, ![8, 2048]⟩
abbrev S2048x12288 : Shape := ⟨2, ![2048, 12288]⟩
abbrev S1x12288 : Shape := ⟨2, ![1, 12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S1x12288, .f32⟩
  | .hbm, ⟨3, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x2048 : Shape := ⟨2, ![8, 2048]⟩
abbrev S2048x12288 : Shape := ⟨2, ![2048, 12288]⟩
abbrev S1x12288 : Shape := ⟨2, ![1, 12288]⟩
abbrev S_ : Shape := ⟨0, ![]⟩
abbrev S8x12288 : Shape := ⟨2, ![8, 12288]⟩

abbrev nBuf : Space → Nat
  | .hbm => 15
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S1x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x12288, .f32⟩
  | .hbm, ⟨13, _⟩ => ⟨S8x12288, .f32⟩
  | .hbm, ⟨14, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Kernel5.lean ====
abbrev S8192x128 : Shape := ⟨2, ![8192, 128]⟩
abbrev S1x128 : Shape := ⟨2, ![1, 128]⟩
abbrev S256x128 : Shape := ⟨2, ![256, 128]⟩
abbrev S256x1 : Shape := ⟨2, ![256, 1]⟩
abbrev S256x256 : Shape := ⟨2, ![256, 256]⟩
abbrev S256 : Shape := ⟨1, ![256]⟩
abbrev S128 : Shape := ⟨1, ![128]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S1x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S1x128, .f32⟩
  | .local _ .vmem, ⟨5, _⟩ => ⟨S1x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference5Ideal.lean ====
abbrev S8192x128 : Shape := ⟨2, ![8192, 128]⟩
abbrev S128 : Shape := ⟨1, ![128]⟩
abbrev S8192x1 : Shape := ⟨2, ![8192, 1]⟩
abbrev S1x128 : Shape := ⟨2, ![1, 128]⟩
abbrev S_ : Shape := ⟨0, ![]⟩
abbrev S8192 : Shape := ⟨1, ![8192]⟩
abbrev S8192x126 : Shape := ⟨2, ![8192, 126]⟩

abbrev nBuf : Space → Nat
  | .hbm => 39
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128, .i32⟩
  | .hbm, ⟨2, _⟩ => ⟨S128, .f32⟩
  | .hbm, ⟨3, _⟩ => ⟨S8192x1, .f32⟩
  | .hbm, ⟨4, _⟩ => ⟨S1x128, .f32⟩
  | .hbm, ⟨5, _⟩ => ⟨S8192x128, .f32⟩
  | .hbm, ⟨6, _⟩ => ⟨S8192x128, .f32⟩
  | .hbm, ⟨7, _⟩ => ⟨S8192x128, .i1⟩
  | .hbm, ⟨8, _⟩ => ⟨S8192x1, .f32⟩
  | .hbm, ⟨9, _⟩ => ⟨S1x128, .f32⟩
  | .hbm, ⟨10, _⟩ => ⟨S8192x128, .f32⟩
  | .hbm, ⟨11, _⟩ => ⟨S8192x128, .f32⟩
  | .hbm, ⟨12, _⟩ => ⟨S8192x128, .i1⟩
  | .hbm, ⟨13, _⟩ => ⟨S8192x128, .i1⟩
  | .hbm, ⟨14, _⟩ => ⟨S8192x128, .f32⟩
  | .hbm, ⟨15, _⟩ => ⟨S_, .f32⟩
  | .hbm, ⟨16, _⟩ => ⟨S_, .f32⟩
  | .hbm, ⟨17, _⟩ => ⟨S8192x128, .f32⟩
  | .hbm, ⟨18, _⟩ => ⟨S8192x128, .f32⟩
  | .hbm, ⟨19, _⟩ => ⟨S_, .f32⟩
  | .hbm, ⟨20, _⟩ => ⟨S_, .f32⟩
  | .hbm, ⟨21, _⟩ => ⟨S8192x128, .f32⟩
  | .hbm, ⟨22, _⟩ => ⟨S8192x128, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S_, .f32⟩
  | .hbm, ⟨28, _⟩ => ⟨S8192x128, .f32⟩
  | .hbm, ⟨29, _⟩ => ⟨S8192x128, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x126, .f32⟩
  | .hbm, ⟨35, _⟩ => ⟨S8192x128, .f32⟩
  | .hbm, ⟨36, _⟩ => ⟨S_, .f32⟩
  | .hbm, ⟨37, _⟩ => ⟨S128, .f32⟩
  | .hbm, ⟨38, _⟩ => ⟨S1x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_call0_call0_cst : Ref sig .tc := ⟨.hbm, 15, rfl⟩
abbrev main_call0_call0_v0 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_call2_v0 : Ref sig .tc := ⟨.hbm, 27, rfl⟩
abbrev main_call2_v1 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Proof.AttnHead.lean ====
/-
  One attention head of the kernel, read at an index over the extended reals.
-/
module

public import proofs.«01_k».proof.Proof.Gen.KernelIdeal.Skeleton
public import Idealize.ShloMosaic.Lib.Pointwise
public import Idealize.ShloMosaic.Lib.Pipeline.Value

@[expose] public section

noncomputable section

open Idealize.ShloMosaic Idealize.ShloMosaic.TcCoe Idealize.SL.Sem

namespace Cert.KernelIdeal.Attn

open Cert.KernelIdeal Cert.KernelIdeal.Gen

/-- The scaled score of a query row against one band position, `⊥` where the position is masked. -/
def score (valid : IVec S128x256 1) (kb : FVec Ideal S256x64 .bf16) (q : FVec Ideal S128x64 .bf16) (r : Fin 128) (s : Fin 256) : EReal :=
  Scalar.select (valid (ix2 r s)) ((∑ k : Fin 64, q (ix2 r k) * kb (ix2 s k)) * Ideal.ofBits .f32 0x3E000000#32) ⊥

/-- The maximum of a row's scores and its sink. -/
def rowMax (S : Fin 256 → EReal) (sink : EReal) : EReal :=
  max ((Finset.univ : Finset (Fin 256)).fold max ⊥ S) sink

/-- The mask's named constant is `−∞`. -/
theorem mask_eq : (Named.named κ "mask" 0xF149F2CA#32 : Ideal .f32) = ⊥ := IdealRules.named_const.ideal_named_scalar _ _ _ _ rfl

/-- The pattern of `−∞` at f32. -/
theorem ofBits_bot : Ideal.ofBits .f32 0xFF800000#32 = ⊥ := by
  simp [Ideal.ofBits, Ideal.ieee]

/-- The kernel's head at row `r`, lane `d`: the weighted sum of the values, then the division. -/
theorem head_apply (valid : IVec S128x256 1) (kb vb : FVec Ideal S256x64 .bf16) (q : FVec Ideal S128x64 .bf16) (sink : EReal)
    (r : Fin 128) (d : Fin 64) :
    k0_pay11 (F := Ideal) valid kb vb q sink (ix2 r d)
      = Ideal.div (∑ s : Fin 256, Ideal.exp (score valid kb q r s - rowMax (score valid kb q r) sink) * vb (ix2 s d))
          ((∑ s : Fin 256, Ideal.exp (score valid kb q r s - rowMax (score valid kb q r) sink))
            + Ideal.exp (sink - rowMax (score valid kb q r) sink)) := by
  unfold k0_pay11
  pointwise
  rw [mask_eq, ofBits_bot]
  rfl

end Cert.KernelIdeal.Attn
-- ==== Proof.AttnBlock.lean ====
/-
  What one grid point of the attention leaves in its output block: head `h` of query row `r` in columns
  `64 h … 64 h + 63`, each head the same function of the point's mask, its band of keys and values and its queries.
-/
module

public import proofs.«01_k».proof.Proof.Gen.KernelIdeal.Value
public import proofs.«01_k».proof.Proof.AttnHead

@[expose] public section

noncomputable section

open Idealize.ShloMosaic Idealize.ShloMosaic.TcCoe Idealize.SL.Sem

namespace Cert.KernelIdeal.Attn

open Cert.KernelIdeal Cert.KernelIdeal.Gen

/-- 64 columns of the 256-position band, from column `o`: the previous block's rows, then the current block's. -/
def band (o : Fin 449) (x2 x3 : Vec Ideal S128x512 .bf16) : FVec Ideal S256x64 .bf16 := fun j =>
  if h : (j 0).val < 128 then x2 (ix2 (⟨(j 0).val, h⟩ : Fin 128) (⟨o.val + (j 1).val, by have := o.isLt; have : (j 1).val < 64 := (j 1).isLt; omega⟩ : Fin 512))
  else x3 (ix2 (⟨(j 0).val - 128, by have : (j 0).val < 256 := (j 0).isLt; omega⟩ : Fin 128) (⟨o.val + (j 1).val, by have := o.isLt; have : (j 1).val < 64 := (j 1).isLt; omega⟩ : Fin 512))

/-- Head `h`'s 64 query columns. -/
def qcols (h : Fin 32) (x1 : Vec Ideal S128x2048 .bf16) : FVec Ideal S128x64 .bf16 := fun j =>
  x1 (ix2 (⟨(j 0).val, (j 0).isLt⟩ : Fin 128) (⟨64 * h.val + (j 1).val, by have := h.isLt; have : (j 1).val < 64 := (j 1).isLt; omega⟩ : Fin 2048))

/-- Head `h` of the block, its key and value columns chosen by its group `h / 8`. -/
def headBlk (i : grid0.Coords) (x0 : Vec Ideal S32 .f32) (x1 : Vec Ideal S128x2048 .bf16) (x2 x3 : Vec Ideal S128x512 .bf16) (h : Fin 32) : FVec Ideal S128x64 .f32 :=
  k0_pay11 (F := Ideal) (k0_pay2 i) (band ⟨64 * (h.val / 8), by omega⟩ x2 x3) (band ⟨256 + 64 * (h.val / 8), by omega⟩ x2 x3) (qcols h x1) (x0 (ix1 h))

/-- The whole block at an index. -/
def outBlk (i : grid0.Coords) (x0 : Vec Ideal S32 .f32) (x1 : Vec Ideal S128x2048 .bf16) (x2 x3 : Vec Ideal S128x512 .bf16) (j : S128x2048.Idx) : EReal :=
  headBlk i x0 x1 x2 x3 ⟨(j 1).val / 64, by have : (j 1).val < 2048 := (j 1).isLt; omega⟩
    (ix2 (⟨(j 0).val, (j 0).isLt⟩ : Fin 128) (⟨(j 1).val % 64, Nat.mod_lt _ (by decide)⟩ : Fin 64))

/-- Two bands' worth of rows, sliced at the same columns and concatenated, are `band`. -/
theorem band_eq (o : Nat) (ho : o < 449) (x2 x3 : Vec Ideal S128x512 .bf16) (h : S128x512.Slices ![0, o] S128x64) (h' : Shape.Concatenates [S128x64, S128x64] S256x64 0) :
    concatenate S256x64 0 [⟨S128x64, extractStridedSlice S128x64 ![0, o] x2 h⟩, ⟨S128x64, extractStridedSlice S128x64 ![0, o] x3 h⟩] h' = band ⟨o, ho⟩ x2 x3 := by
  funext j
  unfold band
  split
  next hlt =>
    refine (concatenate_pair_apply_left (s₁ := S128x64) (s₂ := S128x64) (t := S256x64) (0 : Fin 2) _ _ h' j rfl (ix2 (⟨(j 0).val, hlt⟩ : Fin 128) (⟨(j 1).val, (j 1).isLt⟩ : Fin 64)) (fun a => by match a with | ⟨0, _⟩ => rfl | ⟨1, _⟩ => rfl)).trans ?_
    exact extractStridedSlice_apply _ _ _ _ _ (fun a => by match a with | ⟨0, _⟩ => exact (Nat.zero_add _).symm | ⟨1, _⟩ => rfl)
  next hge =>
    have hj : (j 0).val < 256 := (j 0).isLt
    refine (concatenate_pair_apply_right (s₁ := S128x64) (s₂ := S128x64) (t := S256x64) (0 : Fin 2) _ _ h' j rfl rfl (ix2 (⟨(j 0).val - 128, by omega⟩ : Fin 128) (⟨(j 1).val, (j 1).isLt⟩ : Fin 64))
      (fun a ha => by match a with | ⟨0, _⟩ => exact absurd rfl ha | ⟨1, _⟩ => rfl) (by show (j 0).val - 128 + 128 = (j 0).val; omega)).trans ?_
    exact extractStridedSlice_apply _ _ _ _ _ (fun a => by match a with | ⟨0, _⟩ => exact (Nat.zero_add _).symm | ⟨1, _⟩ => rfl)

/-- The kernel's band `k0_pay3`. -/
theorem band_pay3 (x2 x3 : Vec Ideal S128x512 .bf16) : k0_pay3 (F := Ideal) x2 x3 = band ⟨0, by decide⟩ x2 x3 :=
  band_eq 0 (by decide) x2 x3 slices_S128x512_o0_0_S128x64 concatenates_S128x64_S128x64_S256x64_d0
/-- The kernel's band `k0_pay4`. -/
theorem band_pay4 (x2 x3 : Vec Ideal S128x512 .bf16) : k0_pay4 (F := Ideal) x2 x3 = band ⟨256, by decide⟩ x2 x3 :=
  band_eq 256 (by decide) x2 x3 slices_S128x512_o0_256_S128x64 concatenates_S128x64_S128x64_S256x64_d0
/-- The kernel's band `k0_pay24`. -/
theorem band_pay24 (x2 x3 : Vec Ideal S128x512 .bf16) : k0_pay24 (F := Ideal) x2 x3 = band ⟨64, by decide⟩ x2 x3 :=
  band_eq 64 (by decide) x2 x3 slices_S128x512_o0_64_S128x64 concatenates_S128x64_S128x64_S256x64_d0
/-- The kernel's band `k0_pay25`. -/
theorem band_pay25 (x2 x3 : Vec Ideal S128x512 .bf16) : k0_pay25 (F := Ideal) x2 x3 = band ⟨320, by decide⟩ x2 x3 :=
  band_eq 320 (by decide) x2 x3 slices_S128x512_o0_320_S128x64 concatenates_S128x64_S128x64_S256x64_d0
/-- The kernel's band `k0_pay40`. -/
theorem band_pay40 (x2 x3 : Vec Ideal S128x512 .bf16) : k0_pay40 (F := Ideal) x2 x3 = band ⟨128, by decide⟩ x2 x3 :=
  band_eq 128 (by decide) x2 x3 slices_S128x512_o0_128_S128x64 concatenates_S128x64_S128x64_S256x64_d0
/-- The kernel's band `k0_pay41`. -/
theorem band_pay41 (x2 x3 : Vec Ideal S128x512 .bf16) : k0_pay41 (F := Ideal) x2 x3 = band ⟨384, by decide⟩ x2 x3 :=
  band_eq 384 (by decide) x2 x3 slices_S128x512_o0_384_S128x64 concatenates_S128x64_S128x64_S256x64_d0
/-- The kernel's band `k0_pay59`. -/
theorem band_pay59 (x2 x3 : Vec Ideal S128x512 .bf16) : k0_pay59 (F := Ideal) x2 x3 = band ⟨192, by decide⟩ x2 x3 :=
  band_eq 192 (by decide) x2 x3 slices_S128x512_o0_192_S128x64 concatenates_S128x64_S128x64_S256x64_d0
/-- The kernel's band `k0_pay60`. -/
theorem band_pay60 (x2 x3 : Vec Ideal S128x512 .bf16) : k0_pay60 (F := Ideal) x2 x3 = band ⟨448, by decide⟩ x2 x3 :=
  band_eq 448 (by decide) x2 x3 slices_S128x512_o0_448_S128x64 concatenates_S128x64_S128x64_S256x64_d0

/-- A 64-column load of the query block is one head's queries. -/
theorem ld_q (x1 : Vec Ideal S128x2048 .bf16) (o : Nat) (inb : ∀ a, (![0, o] : Fin 2 → Nat) a + (![128, 64] : Fin 2 → Nat) a ≤ S128x2048.size a) (h : Fin 32) (ho : o = 64 * h.val) :
    View.ld x1 (Rect.unit (s := S128x2048) ![0, o] ![128, 64] inb) = qcols h x1 := by
  subst ho
  funext j
  unfold qcols
  show x1 _ = x1 _
  congr 1; funext a; apply Fin.ext; match a with
  | ⟨0, _⟩ => show 0 + 1 * _ = _; simp
  | ⟨1, _⟩ => show 64 * h.val + 1 * _ = _; simp

/-- A one-element load of the sinks. -/
theorem ld_sink (x0 : Vec Ideal S32 .f32) (o : Nat) (inb : ∀ a, (![o] : Fin 1 → Nat) a + (![1] : Fin 1 → Nat) a ≤ S32.size a) (hf) (h : Fin 32) (ho : o = h.val) :
    View.ld x0 (Rect.unit (s := S32) ![o] ![1] inb) (Shape.Idx.first hf) = x0 (ix1 h) := by
  subst ho
  show x0 _ = x0 _
  congr 1; funext a; apply Fin.ext; match a with
  | ⟨0, _⟩ => show h.val + 1 * 0 = _; simp

/-- Eight heads side by side, read at an index. -/
theorem cat_apply (f : Fin 8 → FVec Ideal S128x64 .f32) (x : S128x512.Idx) :
    k0_pay1 (F := Ideal) (f 0) (f 1) (f 2) (f 3) (f 4) (f 5) (f 6) (f 7) x
      = f ⟨(x 1).val / 64, by have : (x 1).val < 512 := (x 1).isLt; omega⟩ (ix2 (⟨(x 0).val, (x 0).isLt⟩ : Fin 128) (⟨(x 1).val % 64, Nat.mod_lt _ (by decide)⟩ : Fin 64)) := by
  unfold k0_pay1
  exact concatenate_ofFn_apply (s₁ := S128x64) (t := S128x512) (1 : Fin 2) f concatenates_S128x64_S128x64_S128x64_S128x64_S128x64_S128x64_S128x64_S128x64_S128x512_d1 rfl 64 rfl x
    ⟨(x 1).val / 64, by have : (x 1).val < 512 := (x 1).isLt; omega⟩ rfl (ix2 (⟨(x 0).val, (x 0).isLt⟩ : Fin 128) (⟨(x 1).val % 64, Nat.mod_lt _ (by decide)⟩ : Fin 64)) rfl
    (fun b hb => by match b with | ⟨0, _⟩ => rfl | ⟨1, _⟩ => exact absurd rfl hb)

/-- A piece holding heads `8 kv … 8 kv + 7` at columns `512 kv` agrees with the whole block. -/
theorem piece_apply (i : grid0.Coords) (x0 : Vec Ideal S32 .f32) (x1 : Vec Ideal S128x2048 .bf16) (x2 x3 : Vec Ideal S128x512 .bf16) (kv : Fin 4) (o : Nat) (ho : o = 512 * kv.val)
    (inb : ∀ a, (![0, o] : Fin 2 → Nat) a + (![128, 512] : Fin 2 → Nat) a ≤ S128x2048.size a)
    (f : Fin 8 → FVec Ideal S128x64 .f32) (hf : ∀ g : Fin 8, f g = headBlk i x0 x1 x2 x3 ⟨8 * kv.val + g.val, by omega⟩)
    (x : S128x512.Idx) :
    k0_pay1 (F := Ideal) (f 0) (f 1) (f 2) (f 3) (f 4) (f 5) (f 6) (f 7) x
      = outBlk i x0 x1 x2 x3 ((Rect.unit (s := S128x2048) ![0, o] ![128, 512] inb).emb x) := by
  subst ho
  have hx : (x 1).val < 512 := (x 1).isLt
  rw [cat_apply, hf]
  unfold outBlk
  have e0 : (((Rect.unit (s := S128x2048) ![0, 512 * kv.val] ![128, 512] inb).emb x) 0).val = (x 0).val := by
    show 0 + 1 * (x 0).val = _; omega
  have e1 : (((Rect.unit (s := S128x2048) ![0, 512 * kv.val] ![128, 512] inb).emb x) 1).val = 512 * kv.val + (x 1).val := by
    show 512 * kv.val + 1 * (x 1).val = _; omega
  congr 1
  · congr 1; show 8 * kv.val + (x 1).val / 64 = _ / 64; rw [e1]; omega
  · funext a; apply Fin.ext; match a with
    | ⟨0, _⟩ => exact e0.symm
    | ⟨1, _⟩ => show (x 1).val % 64 = _ % 64; rw [e1]; omega

/-- A block-wide load is the block. -/
theorem ld_kv (x : Vec Ideal S128x512 .bf16) (inb : ∀ a, (![0, 0] : Fin 2 → Nat) a + (![128, 512] : Fin 2 → Nat) a ≤ S128x512.size a) :
    View.ld x (Rect.unit (s := S128x512) ![0, 0] ![128, 512] inb) = x := by
  funext j
  show x _ = x _
  congr 1; funext a; apply Fin.ext; match a with
  | ⟨0, _⟩ => show 0 + 1 * _ = _; simp
  | ⟨1, _⟩ => show 0 + 1 * _ = _; simp

/-- Heads 0 to 7 of the body are one head's function of their own queries and sinks, side by side. -/
theorem heads_0 (i : grid0.Coords) (x2 x3 : Vec Ideal S128x512 .bf16) (q : Fin 8 → FVec Ideal S128x64 .bf16) (s : Fin 8 → EReal) :
    (k0_pay23 (k0_pay2 i) (k0_pay3 x2 x3) (k0_pay4 x2 x3) (k0_pay10 (k0_pay4 x2 x3) (k0_pay8 i x2 x3 (q 0) (s 0)) (k0_pay9 i x2 x3 (q 0) (s 0)) (constant S128x64 FTy.f32 0#32)) (k0_pay11 (k0_pay2 i) (k0_pay3 x2 x3) (k0_pay4 x2 x3) (q 1) (s 1)) (k0_pay16 (k0_pay4 x2 x3) (s 2) (k0_pay13 (k0_pay2 i) (k0_pay3 x2 x3) (q 2) (s 2)) (k0_pay14 (k0_pay2 i) (k0_pay3 x2 x3) (q 2) (s 2)) (k0_pay15 (k0_pay2 i) (k0_pay3 x2 x3) (q 2) (s 2))) (k0_pay17 (k0_pay2 i) (k0_pay3 x2 x3) (k0_pay4 x2 x3) (q 3) (s 3)) (k0_pay20 (k0_pay4 x2 x3) (k0_pay18 (k0_pay2 i) (k0_pay3 x2 x3) (q 4)) (s 4) (k0_pay19 (k0_pay2 i) (k0_pay3 x2 x3) (q 4) (s 4))) (k0_pay21 (k0_pay2 i) (k0_pay3 x2 x3) (k0_pay4 x2 x3) (q 5) (s 5)) (k0_pay22 (k0_pay2 i) (k0_pay3 x2 x3) (q 6)) (s 6) (q 7) (s 7) : FVec Ideal S128x512 .bf16)
      = k0_pay1 (k0_pay11 (k0_pay2 i) (k0_pay3 x2 x3) (k0_pay4 x2 x3) (q 0) (s 0)) (k0_pay11 (k0_pay2 i) (k0_pay3 x2 x3) (k0_pay4 x2 x3) (q 1) (s 1)) (k0_pay11 (k0_pay2 i) (k0_pay3 x2 x3) (k0_pay4 x2 x3) (q 2) (s 2)) (k0_pay11 (k0_pay2 i) (k0_pay3 x2 x3) (k0_pay4 x2 x3) (q 3) (s 3)) (k0_pay11 (k0_pay2 i) (k0_pay3 x2 x3) (k0_pay4 x2 x3) (q 4) (s 4)) (k0_pay11 (k0_pay2 i) (k0_pay3 x2 x3) (k0_pay4 x2 x3) (q 5) (s 5)) (k0_pay11 (k0_pay2 i) (k0_pay3 x2 x3) (k0_pay4 x2 x3) (q 6) (s 6)) (k0_pay11 (k0_pay2 i) (k0_pay3 x2 x3) (k0_pay4 x2 x3) (q 7) (s 7)) := by
  unfold_payloads; rfl

/-- Heads 8 to 15 of the body are one head's function of their own queries and sinks, side by side. -/
theorem heads_1 (i : grid0.Coords) (x2 x3 : Vec Ideal S128x512 .bf16) (q : Fin 8 → FVec Ideal S128x64 .bf16) (s : Fin 8 → EReal) :
    (k0_pay39 (k0_pay2 i) (k0_pay24 x2 x3) (k0_pay25 x2 x3) (k0_pay26 x2 x3 (k0_pay2 i) (q 0) (s 0)) (k0_pay30 (k0_pay25 x2 x3) (s 1) (k0_pay28 x2 x3 (k0_pay2 i) (q 1) (s 1)) (k0_pay29 x2 x3 (k0_pay2 i) (q 1) (s 1))) (k0_pay31 (k0_pay2 i) (k0_pay24 x2 x3) (k0_pay25 x2 x3) (q 2) (s 2)) (k0_pay34 (k0_pay25 x2 x3) (k0_pay32 (k0_pay2 i) (k0_pay24 x2 x3) (q 3)) (s 3) (k0_pay33 (k0_pay2 i) (k0_pay24 x2 x3) (q 3))) (k0_pay35 (k0_pay2 i) (k0_pay24 x2 x3) (k0_pay25 x2 x3) (q 4) (s 4)) (k0_pay37 (k0_pay2 i) (k0_pay25 x2 x3) (k0_pay36 (k0_pay24 x2 x3) (q 5)) (Named.named κ "mask" 4048155338#32) (s 5)) (k0_pay38 (k0_pay2 i) (k0_pay24 x2 x3) (k0_pay25 x2 x3) (q 6) (s 6)) (q 7) (s 7) : FVec Ideal S128x512 .bf16)
      = k0_pay1 (k0_pay11 (k0_pay2 i) (k0_pay24 x2 x3) (k0_pay25 x2 x3) (q 0) (s 0)) (k0_pay11 (k0_pay2 i) (k0_pay24 x2 x3) (k0_pay25 x2 x3) (q 1) (s 1)) (k0_pay11 (k0_pay2 i) (k0_pay24 x2 x3) (k0_pay25 x2 x3) (q 2) (s 2)) (k0_pay11 (k0_pay2 i) (k0_pay24 x2 x3) (k0_pay25 x2 x3) (q 3) (s 3)) (k0_pay11 (k0_pay2 i) (k0_pay24 x2 x3) (k0_pay25 x2 x3) (q 4) (s 4)) (k0_pay11 (k0_pay2 i) (k0_pay24 x2 x3) (k0_pay25 x2 x3) (q 5) (s 5)) (k0_pay11 (k0_pay2 i) (k0_pay24 x2 x3) (k0_pay25 x2 x3) (q 6) (s 6)) (k0_pay11 (k0_pay2 i) (k0_pay24 x2 x3) (k0_pay25 x2 x3) (q 7) (s 7)) := by
  unfold_payloads; rfl

/-- Heads 16 to 23 of the body are one head's function of their own queries and sinks, side by side. -/
theorem heads_2 (i : grid0.Coords) (x2 x3 : Vec Ideal S128x512 .bf16) (q : Fin 8 → FVec Ideal S128x64 .bf16) (s : Fin 8 → EReal) :
    (k0_pay58 (k0_pay41 x2 x3) (k0_pay44 (k0_pay41 x2 x3) (k0_pay42 x2 x3 (k0_pay2 i) (q 0)) (s 0) (k0_pay43 x2 x3 (k0_pay2 i) (q 0) (s 0))) (k0_pay45 (k0_pay2 i) (k0_pay40 x2 x3) (k0_pay41 x2 x3) (q 1) (s 1)) (k0_pay47 (k0_pay41 x2 x3) (k0_pay46 (k0_pay2 i) (k0_pay40 x2 x3) (q 2)) (s 2)) (k0_pay48 (k0_pay2 i) (k0_pay40 x2 x3) (k0_pay41 x2 x3) (q 3) (s 3)) (k0_pay50 (k0_pay2 i) (k0_pay41 x2 x3) (k0_pay49 (k0_pay40 x2 x3) (q 4)) (FloatOps.ofBits FTy.f32 1040187392#32) (s 4)) (k0_pay51 (k0_pay2 i) (k0_pay40 x2 x3) (k0_pay41 x2 x3) (q 5) (s 5)) (k0_pay52 (k0_pay2 i) (k0_pay40 x2 x3) (k0_pay41 x2 x3) (q 6) (s 6)) (k0_pay55 (k0_pay2 i) (k0_pay40 x2 x3) (q 7) (s 7)) (k0_pay56 (k0_pay2 i) (k0_pay40 x2 x3) (q 7) (s 7)) (k0_pay57 (k0_pay2 i) (k0_pay40 x2 x3) (q 7) (s 7)) : FVec Ideal S128x512 .bf16)
      = k0_pay1 (k0_pay11 (k0_pay2 i) (k0_pay40 x2 x3) (k0_pay41 x2 x3) (q 0) (s 0)) (k0_pay11 (k0_pay2 i) (k0_pay40 x2 x3) (k0_pay41 x2 x3) (q 1) (s 1)) (k0_pay11 (k0_pay2 i) (k0_pay40 x2 x3) (k0_pay41 x2 x3) (q 2) (s 2)) (k0_pay11 (k0_pay2 i) (k0_pay40 x2 x3) (k0_pay41 x2 x3) (q 3) (s 3)) (k0_pay11 (k0_pay2 i) (k0_pay40 x2 x3) (k0_pay41 x2 x3) (q 4) (s 4)) (k0_pay11 (k0_pay2 i) (k0_pay40 x2 x3) (k0_pay41 x2 x3) (q 5) (s 5)) (k0_pay11 (k0_pay2 i) (k0_pay40 x2 x3) (k0_pay41 x2 x3) (q 6) (s 6)) (k0_pay11 (k0_pay2 i) (k0_pay40 x2 x3) (k0_pay41 x2 x3) (q 7) (s 7)) := by
  unfold_payloads; rfl

/-- Heads 24 to 31 of the body are one head's function of their own queries and sinks, side by side. -/
theorem heads_3 (i : grid0.Coords) (x2 x3 : Vec Ideal S128x512 .bf16) (q : Fin 8 → FVec Ideal S128x64 .bf16) (s : Fin 8 → EReal) :
    (k0_pay1 (k0_pay61 x2 x3 (k0_pay2 i) (q 0) (s 0)) (k0_pay63 (k0_pay2 i) (k0_pay60 x2 x3) (k0_pay62 x2 x3 (q 1)) (Named.named κ "mask" 4048155338#32) (s 1)) (k0_pay64 (k0_pay2 i) (k0_pay59 x2 x3) (k0_pay60 x2 x3) (q 2) (s 2)) (k0_pay65 (k0_pay2 i) (k0_pay59 x2 x3) (k0_pay60 x2 x3) (q 3) (s 3)) (k0_pay71 (k0_pay60 x2 x3) (k0_pay69 (k0_pay2 i) (k0_pay59 x2 x3) (q 4) (s 4)) (k0_pay70 (k0_pay2 i) (k0_pay59 x2 x3) (q 4) (s 4)) (constant S128x64 FTy.f32 0#32)) (k0_pay72 (k0_pay2 i) (k0_pay59 x2 x3) (k0_pay60 x2 x3) (q 5) (s 5)) (k0_pay77 (k0_pay60 x2 x3) (s 6) (k0_pay74 (k0_pay2 i) (k0_pay59 x2 x3) (q 6) (s 6)) (k0_pay75 (k0_pay2 i) (k0_pay59 x2 x3) (q 6) (s 6)) (k0_pay76 (k0_pay2 i) (k0_pay59 x2 x3) (q 6) (s 6))) (k0_pay78 (k0_pay2 i) (k0_pay59 x2 x3) (k0_pay60 x2 x3) (q 7) (s 7)) : FVec Ideal S128x512 .bf16)
      = k0_pay1 (k0_pay11 (k0_pay2 i) (k0_pay59 x2 x3) (k0_pay60 x2 x3) (q 0) (s 0)) (k0_pay11 (k0_pay2 i) (k0_pay59 x2 x3) (k0_pay60 x2 x3) (q 1) (s 1)) (k0_pay11 (k0_pay2 i) (k0_pay59 x2 x3) (k0_pay60 x2 x3) (q 2) (s 2)) (k0_pay11 (k0_pay2 i) (k0_pay59 x2 x3) (k0_pay60 x2 x3) (q 3) (s 3)) (k0_pay11 (k0_pay2 i) (k0_pay59 x2 x3) (k0_pay60 x2 x3) (q 4) (s 4)) (k0_pay11 (k0_pay2 i) (k0_pay59 x2 x3) (k0_pay60 x2 x3) (q 5) (s 5)) (k0_pay11 (k0_pay2 i) (k0_pay59 x2 x3) (k0_pay60 x2 x3) (q 6) (s 6)) (k0_pay11 (k0_pay2 i) (k0_pay59 x2 x3) (k0_pay60 x2 x3) (q 7) (s 7)) := by
  unfold_payloads; rfl

/-- The group a head of group `kv` reads. -/
theorem hf_eq (i : grid0.Coords) (x0 : Vec Ideal S32 .f32) (x1 : Vec Ideal S128x2048 .bf16) (x2 x3 : Vec Ideal S128x512 .bf16) (kv : Fin 4) (g : Fin 8) :
    k0_pay11 (F := Ideal) (k0_pay2 i) (band ⟨64 * kv.val, by omega⟩ x2 x3) (band ⟨256 + 64 * kv.val, by omega⟩ x2 x3) (qcols ⟨8 * kv.val + g.val, by omega⟩ x1) (x0 (ix1 (⟨8 * kv.val + g.val, by omega⟩ : Fin 32)))
      = headBlk i x0 x1 x2 x3 ⟨8 * kv.val + g.val, by omega⟩ := by
  have h : (8 * kv.val + g.val) / 8 = kv.val := by omega
  unfold headBlk
  simp only [h]

set_option maxRecDepth 4000 in
/-- What the body leaves in the output block is `outBlk`. -/
theorem out_eq (c : Dev nD) (i : grid0.Coords) (arg2 : Memref sig .tc .smem S32 .f32) (harg2 : arg2.IsWhole) (arg3 : Memref sig .tc .vmem S128x2048 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x2048 .bf16) (harg6 : arg6.IsWhole)
    (x0 : Vec Ideal S32 .f32) (x1 : Vec Ideal S128x2048 .bf16) (x2 : Vec Ideal S128x512 .bf16) (x3 : Vec Ideal S128x512 .bf16) (j : S128x2048.Idx) :
    out0_A_4 c i arg2 harg2 arg3 harg3 arg4 harg4 arg5 harg5 arg6 harg6 x0 x1 x2 x3 j = outBlk i x0 x1 x2 x3 j := by
  have hcov := cover0_A_4 c i arg2 harg2 arg3 harg3 arg4 harg4 arg5 harg5 arg6 harg6 x0 x1 x2 x3
  unfold out0_A_4
  rw [View.read_writes_eq_canon _ _ _ hcov]
  refine View.canon_apply_of_pieces (Val := Elt Ideal) (e := .bf16) (outBlk i x0 x1 x2 x3) _ ?_ j (hcov j)
  · unfold kernelRun0_A
    dsimp only
    sl_unfold_words
    simp only [View.readAt_eq_ld, harg2.read_unread, harg3.read_unread, harg4.read_unread, harg5.read_unread, ld_kv, ld_q x1 0 _ 0 rfl, ld_q x1 64 _ 1 rfl, ld_q x1 128 _ 2 rfl, ld_q x1 192 _ 3 rfl, ld_q x1 256 _ 4 rfl, ld_q x1 320 _ 5 rfl, ld_q x1 384 _ 6 rfl, ld_q x1 448 _ 7 rfl, ld_q x1 512 _ 8 rfl, ld_q x1 576 _ 9 rfl, ld_q x1 640 _ 10 rfl, ld_q x1 704 _ 11 rfl, ld_q x1 768 _ 12 rfl, ld_q x1 832 _ 13 rfl, ld_q x1 896 _ 14 rfl, ld_q x1 960 _ 15 rfl, ld_q x1 1024 _ 16 rfl, ld_q x1 1088 _ 17 rfl, ld_q x1 1152 _ 18 rfl, ld_q x1 1216 _ 19 rfl, ld_q x1 1280 _ 20 rfl, ld_q x1 1344 _ 21 rfl, ld_q x1 1408 _ 22 rfl, ld_q x1 1472 _ 23 rfl, ld_q x1 1536 _ 24 rfl, ld_q x1 1600 _ 25 rfl, ld_q x1 1664 _ 26 rfl, ld_q x1 1728 _ 27 rfl, ld_q x1 1792 _ 28 rfl, ld_q x1 1856 _ 29 rfl, ld_q x1 1920 _ 30 rfl, ld_q x1 1984 _ 31 rfl, ld_sink x0 0 _ _ 0 rfl, ld_sink x0 1 _ _ 1 rfl, ld_sink x0 2 _ _ 2 rfl, ld_sink x0 3 _ _ 3 rfl, ld_sink x0 4 _ _ 4 rfl, ld_sink x0 5 _ _ 5 rfl, ld_sink x0 6 _ _ 6 rfl, ld_sink x0 7 _ _ 7 rfl, ld_sink x0 8 _ _ 8 rfl, ld_sink x0 9 _ _ 9 rfl, ld_sink x0 10 _ _ 10 rfl, ld_sink x0 11 _ _ 11 rfl, ld_sink x0 12 _ _ 12 rfl, ld_sink x0 13 _ _ 13 rfl, ld_sink x0 14 _ _ 14 rfl, ld_sink x0 15 _ _ 15 rfl, ld_sink x0 16 _ _ 16 rfl, ld_sink x0 17 _ _ 17 rfl, ld_sink x0 18 _ _ 18 rfl, ld_sink x0 19 _ _ 19 rfl, ld_sink x0 20 _ _ 20 rfl, ld_sink x0 21 _ _ 21 rfl, ld_sink x0 22 _ _ 22 rfl, ld_sink x0 23 _ _ 23 rfl, ld_sink x0 24 _ _ 24 rfl, ld_sink x0 25 _ _ 25 rfl, ld_sink x0 26 _ _ 26 rfl, ld_sink x0 27 _ _ 27 rfl, ld_sink x0 28 _ _ 28 rfl, ld_sink x0 29 _ _ 29 rfl, ld_sink x0 30 _ _ 30 rfl, ld_sink x0 31 _ _ 31 rfl]
    intro p hp x
    simp only [List.mem_cons, List.not_mem_nil, or_false] at hp
    rcases hp with rfl | rfl | rfl | rfl
    · refine (congrFun (heads_3 i x2 x3 (fun g => qcols ⟨24 + g.val, by omega⟩ x1) (fun g => x0 (ix1 (⟨24 + g.val, by omega⟩ : Fin 32)))) x).trans ?_
      rw [band_pay59, band_pay60]
      exact piece_apply i x0 x1 x2 x3 3 1536 rfl inb_S128x2048_S128x512_0_1536 (fun g => k0_pay11 (F := Ideal) (k0_pay2 i) (band ⟨192, by decide⟩ x2 x3) (band ⟨448, by decide⟩ x2 x3) (qcols ⟨24 + g.val, by omega⟩ x1) (x0 (ix1 (⟨24 + g.val, by omega⟩ : Fin 32)))) (fun g => hf_eq i x0 x1 x2 x3 3 g) x
    · refine (congrFun (heads_2 i x2 x3 (fun g => qcols ⟨16 + g.val, by omega⟩ x1) (fun g => x0 (ix1 (⟨16 + g.val, by omega⟩ : Fin 32)))) x).trans ?_
      rw [band_pay40, band_pay41]
      exact piece_apply i x0 x1 x2 x3 2 1024 rfl inb_S128x2048_S128x512_0_1024 (fun g => k0_pay11 (F := Ideal) (k0_pay2 i) (band ⟨128, by decide⟩ x2 x3) (band ⟨384, by decide⟩ x2 x3) (qcols ⟨16 + g.val, by omega⟩ x1) (x0 (ix1 (⟨16 + g.val, by omega⟩ : Fin 32)))) (fun g => hf_eq i x0 x1 x2 x3 2 g) x
    · refine (congrFun (heads_1 i x2 x3 (fun g => qcols ⟨8 + g.val, by omega⟩ x1) (fun g => x0 (ix1 (⟨8 + g.val, by omega⟩ : Fin 32)))) x).trans ?_
      rw [band_pay24, band_pay25]
      exact piece_apply i x0 x1 x2 x3 1 512 rfl inb_S128x2048_S128x512_0_512 (fun g => k0_pay11 (F := Ideal) (k0_pay2 i) (band ⟨64, by decide⟩ x2 x3) (band ⟨320, by decide⟩ x2 x3) (qcols ⟨8 + g.val, by omega⟩ x1) (x0 (ix1 (⟨8 + g.val, by omega⟩ : Fin 32)))) (fun g => hf_eq i x0 x1 x2 x3 1 g) x
    · refine (congrFun (heads_0 i x2 x3 (fun g => qcols ⟨0 + g.val, by omega⟩ x1) (fun g => x0 (ix1 (⟨0 + g.val, by omega⟩ : Fin 32)))) x).trans ?_
      rw [band_pay3, band_pay4]
      exact piece_apply i x0 x1 x2 x3 0 0 rfl inb_S128x2048_S128x512_0_0 (fun g => k0_pay11 (F := Ideal) (k0_pay2 i) (band ⟨0, by decide⟩ x2 x3) (band ⟨256, by decide⟩ x2 x3) (qcols ⟨0 + g.val, by omega⟩ x1) (x0 (ix1 (⟨0 + g.val, by omega⟩ : Fin 32)))) (fun g => hf_eq i x0 x1 x2 x3 0 g) x

end Cert.KernelIdeal.Attn
-- ==== Proof.AttnArray.lean ====
/-
  The attention kernel's whole output array, index by index, as a function of its two arguments.
-/
module

public import proofs.«01_k».proof.Proof.AttnBlock
public import Idealize.ShloMosaic.Lib.Pipeline.ValueKit.Geometry
public import Idealize.ShloMosaic.Lib.WordCmp

@[expose] public section

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.KernelIdeal.Value

/-- The array row a band position of token block `t` reads: the block before (the block itself at a sequence's start), then
    the block itself. -/
def bandRow (t : Fin 64) (s : Fin 256) : Fin 8192 :=
  if s.val < 128 then ⟨128 * (if t.val % 32 = 0 then t.val else t.val - 1) + s.val % 128, by split <;> omega⟩
  else ⟨128 * t.val + s.val % 128, by omega⟩

/-- Whether query row `r` of token block `t` attends to band position `s`. -/
def validAt (t : Fin 64) (r : Fin 128) (s : Fin 256) : Bool :=
  decide (r.val < s.val) && decide (s.val ≤ r.val + 128) && (decide (128 ≤ s.val) || decide (0 < t.val % 32))

/-- The scaled score of a row for a head against a band position, `⊥` where masked. -/
def scoreAt (A : S8192x14848.Idx → EReal) (t : Fin 64) (r : Fin 128) (h : Fin 32) (s : Fin 256) : EReal :=
  if validAt t r s then
    (∑ k : Fin 64, A (ix2 (⟨128 * t.val + r.val, by omega⟩ : Fin 8192) (⟨64 * h.val + k.val, by omega⟩ : Fin 14848))
      * A (ix2 (bandRow t s) (⟨14336 + 64 * (h.val / 8) + k.val, by omega⟩ : Fin 14848))) * Ideal.ofBits .f32 0x3E000000#32
  else ⊥

/-- The attention's value for row `r` of token block `t`, head `h`, column `d`. -/
def attnAt (A : S8192x14848.Idx → EReal) (K : S32.Idx → EReal) (t : Fin 64) (r : Fin 128) (h : Fin 32) (d : Fin 64) : EReal :=
  Ideal.div
    (∑ s : Fin 256, Ideal.exp (scoreAt A t r h s - rowMax (scoreAt A t r h) (K (ix1 h)))
      * A (ix2 (bandRow t s) (⟨14592 + 64 * (h.val / 8) + d.val, by omega⟩ : Fin 14848)))
    ((∑ s : Fin 256, Ideal.exp (scoreAt A t r h s - rowMax (scoreAt A t r h) (K (ix1 h)))) + Ideal.exp (K (ix1 h) - rowMax (scoreAt A t r h) (K (ix1 h))))

/-- The whole output. -/
def attnOut (A : S8192x14848.Idx → EReal) (K : S32.Idx → EReal) (j : S8192x2048.Idx) : EReal :=
  attnAt A K ⟨(j 0).val / 128, by have : (j 0).val < 8192 := (j 0).isLt; omega⟩ ⟨(j 0).val % 128, Nat.mod_lt _ (by decide)⟩
    ⟨(j 1).val / 64, by have : (j 1).val < 2048 := (j 1).isLt; omega⟩ ⟨(j 1).val % 64, Nat.mod_lt _ (by decide)⟩

theorem index1 : ∀ t : Fin grid0.N, win0_1.index t 0 = t.val ∧ win0_1.index t 1 = 0 := by decide +kernel
theorem index2 : ∀ t : Fin grid0.N, win0_2.index t 0 = (if t.val % 32 = 0 then t.val else t.val - 1) ∧ win0_2.index t 1 = 28 := by decide +kernel
theorem index3 : ∀ t : Fin grid0.N, win0_3.index t 0 = t.val ∧ win0_3.index t 1 = 28 := by decide +kernel
theorem index4 : ∀ t : Fin grid0.N, win0_4.index t 0 = t.val ∧ win0_4.index t 1 = 0 := by decide +kernel
theorem coord1 : ∀ t : Fin grid0.N, (grid0.coords t 1).val = t.val % 32 := by decide +kernel

variable (m : (ℓ : Loc nD τ sig) → Buf (Elt Ideal) ℓ)

/-- The sinks' block is the sinks. -/
theorem iblk0 (c : Dev nD) (t : Fin cfg0.N) (h : Fin 32) : (iblk m c 0 t : S32.Idx → EReal) (ix1 h) = (m ((c : Thread nD τ).loc main_arg1) : S32.Idx → EReal) (ix1 h) := by
  unfold iblk
  rw [View.read_apply]
  show V m c main_arg1 _ = m _ _
  unfold V
  congr 1; funext a; apply Fin.ext; match a with
  | ⟨0, _⟩ => show 0 * 32 + 1 * h.val = h.val; omega

/-- The query block at a point. -/
theorem x1_apply (c : Dev nD) (t : Fin cfg0.N) (r : Fin 128) (k : Fin 2048) :
    (X0_1 m c t : S128x2048.Idx → EReal) (ix2 r k) = (m ((c : Thread nD τ).loc main_arg0) : S8192x14848.Idx → EReal)
      (ix2 (⟨128 * t.val + r.val, by have : t.val < 64 := t.isLt; omega⟩ : Fin 8192) (⟨k.val, by omega⟩ : Fin 14848)) := by
  unfold X0_1 Pipeline.Window.fill
  rw [dif_pos (moved0_1 t _)]
  unfold iblk
  rw [View.read_apply]
  show V m c main_arg0 _ = m _ _
  unfold V
  congr 1; funext a; apply Fin.ext; match a with
  | ⟨0, _⟩ => show win0_1.index t 0 * 128 + 1 * r.val = 128 * t.val + r.val; rw [(index1 t).1]; omega
  | ⟨1, _⟩ => show win0_1.index t 1 * 2048 + 1 * k.val = k.val; rw [(index1 t).2]; omega

/-- The previous block's keys and values. -/
theorem x2_apply (c : Dev nD) (t : Fin cfg0.N) (r : Fin 128) (k : Fin 512) :
    (iblk m c 2 t : S128x512.Idx → EReal) (ix2 r k) = (m ((c : Thread nD τ).loc main_arg0) : S8192x14848.Idx → EReal)
      (ix2 (⟨128 * (if t.val % 32 = 0 then t.val else t.val - 1) + r.val, by have : t.val < 64 := t.isLt; split <;> omega⟩ : Fin 8192) (⟨14336 + k.val, by omega⟩ : Fin 14848)) := by
  unfold iblk
  rw [View.read_apply]
  show V m c main_arg0 _ = m _ _
  unfold V
  congr 1; funext a; apply Fin.ext; match a with
  | ⟨0, _⟩ => show win0_2.index t 0 * 128 + 1 * r.val = 128 * (if t.val % 32 = 0 then t.val else t.val - 1) + r.val; rw [(index2 t).1]; omega
  | ⟨1, _⟩ => show win0_2.index t 1 * 512 + 1 * k.val = 14336 + k.val; rw [(index2 t).2]; omega

/-- The current block's keys and values. -/
theorem x3_apply (c : Dev nD) (t : Fin cfg0.N) (r : Fin 128) (k : Fin 512) :
    (iblk m c 3 t : S128x512.Idx → EReal) (ix2 r k) = (m ((c : Thread nD τ).loc main_arg0) : S8192x14848.Idx → EReal)
      (ix2 (⟨128 * t.val + r.val, by have : t.val < 64 := t.isLt; omega⟩ : Fin 8192) (⟨14336 + k.val, by omega⟩ : Fin 14848)) := by
  unfold iblk
  rw [View.read_apply]
  show V m c main_arg0 _ = m _ _
  unfold V
  congr 1; funext a; apply Fin.ext; match a with
  | ⟨0, _⟩ => show win0_3.index t 0 * 128 + 1 * r.val = 128 * t.val + r.val; rw [(index3 t).1]; omega
  | ⟨1, _⟩ => show win0_3.index t 1 * 512 + 1 * k.val = 14336 + k.val; rw [(index3 t).2]; omega

/-- A band position's row of keys or values. -/
theorem band_apply (c : Dev nD) (t : Fin cfg0.N) (o : Fin 449) (s : Fin 256) (k : Fin 64) :
    band o (iblk m c 2 t : S128x512.Idx → EReal) (iblk m c 3 t : S128x512.Idx → EReal) (ix2 s k) = (m ((c : Thread nD τ).loc main_arg0) : S8192x14848.Idx → EReal)
      (ix2 (bandRow ⟨t.val, t.isLt⟩ s) (⟨14336 + o.val + k.val, by omega⟩ : Fin 14848)) := by
  unfold band bandRow
  by_cases hs : s.val < 128
  · rw [dif_pos (show ((ix2 s k : S256x64.Idx) 0).val < 128 from hs), if_pos hs]
    refine (x2_apply m c t _ _).trans ?_
    congr 1; funext a; apply Fin.ext; match a with
    | ⟨0, _⟩ => show 128 * _ + s.val = 128 * _ + s.val % 128; rw [Nat.mod_eq_of_lt hs]
    | ⟨1, _⟩ => show 14336 + (o.val + k.val) = 14336 + o.val + k.val; omega
  · rw [dif_neg (show ¬ ((ix2 s k : S256x64.Idx) 0).val < 128 from hs), if_neg hs]
    refine (x3_apply m c t _ _).trans ?_
    congr 1; funext a; apply Fin.ext; match a with
    | ⟨0, _⟩ => show 128 * t.val + (s.val - 128) = 128 * t.val + s.val % 128; omega
    | ⟨1, _⟩ => show 14336 + (o.val + k.val) = 14336 + o.val + k.val; omega

/-- The mask at a position. -/
theorem mask_apply (i : grid0.Coords) (n : Nat) (hn : n < 32) (hi : (i 1).val = n) (r : Fin 128) (s : Fin 256) :
    k0_pay2 i (ix2 r s) = BitVec.ofBool (decide (r.val < s.val) && decide (s.val ≤ r.val + 128) && (decide (128 ≤ s.val) || decide (0 < n))) := by
  unfold k0_pay2
  pointwise
  rw [hi, show IntOp.addi (BitVec.ofNat 32 r.val) 128#32 = BitVec.ofNat 32 (r.val + 128) from (BitVec.ofNat_add r.val 128).symm]
  show IntOp.andi (IntOp.andi _ _) (IntOp.ori (IntOp.cmpi .sge _ (BitVec.ofNat 32 128)) (IntOp.cmpi .sgt (BitVec.ofNat 32 n) (BitVec.ofNat 32 0))) = _
  rw [WordCmp.cmpi_sgt_ofNat (by have := s.isLt; norm_num; omega) (by have := r.isLt; norm_num; omega), WordCmp.cmpi_sle_ofNat (by have := s.isLt; norm_num; omega) (by have := r.isLt; norm_num; omega),
    WordCmp.cmpi_sge_ofNat (by have := s.isLt; norm_num; omega) (by norm_num), WordCmp.cmpi_sgt_ofNat (by norm_num; omega) (by norm_num)]
  generalize decide (r.val < s.val) = p
  generalize decide (s.val ≤ r.val + 128) = q
  generalize decide (128 ≤ s.val) = u
  generalize decide (0 < n) = v
  revert p q u v
  decide

/-- What grid point `t` leaves in its block, from the two arguments. -/
theorem outBlk_apply (c : Dev nD) (t : Fin cfg0.N) (r : Fin 128) (k : Fin 2048) :
    outBlk (grid0.coords t) (iblk m c 0 t) (X0_1 m c t) (iblk m c 2 t) (iblk m c 3 t) (ix2 r k)
      = attnAt (m ((c : Thread nD τ).loc main_arg0)) (m ((c : Thread nD τ).loc main_arg1)) ⟨t.val, t.isLt⟩ r ⟨k.val / 64, by omega⟩ ⟨k.val % 64, Nat.mod_lt _ (by decide)⟩ := by
  have hsc : score (k0_pay2 (grid0.coords t)) (band ⟨64 * (k.val / 64 / 8), by omega⟩ (iblk m c 2 t) (iblk m c 3 t)) (qcols ⟨k.val / 64, by omega⟩ (X0_1 m c t)) r
      = scoreAt (m ((c : Thread nD τ).loc main_arg0)) ⟨t.val, t.isLt⟩ r ⟨k.val / 64, by omega⟩ := by
    funext s
    unfold score scoreAt validAt
    rw [mask_apply _ (t.val % 32) (Nat.mod_lt _ (by decide)) (coord1 t)]
    have hsum : ∀ kk : Fin 64, qcols ⟨k.val / 64, by omega⟩ (X0_1 m c t) (ix2 r kk) = (m ((c : Thread nD τ).loc main_arg0) : S8192x14848.Idx → EReal)
        (ix2 (⟨128 * t.val + r.val, by have : t.val < 64 := t.isLt; omega⟩ : Fin 8192) (⟨64 * (k.val / 64) + kk.val, by omega⟩ : Fin 14848)) := fun kk => x1_apply m c t _ _
    simp only [hsum, band_apply]
    generalize (decide (r.val < s.val) && decide (s.val ≤ r.val + 128) && (decide (128 ≤ s.val) || decide (0 < t.val % 32))) = b
    cases b <;> rfl
  have hk : (iblk m c 0 t : S32.Idx → EReal) (ix1 (⟨k.val / 64, by omega⟩ : Fin 32)) = (m ((c : Thread nD τ).loc main_arg1) : S32.Idx → EReal) (ix1 ⟨k.val / 64, by omega⟩) := iblk0 m c t _
  have hv : ∀ (s : Fin 256) (d : Fin 64), band ⟨256 + 64 * (k.val / 64 / 8), by omega⟩ (iblk m c 2 t : S128x512.Idx → EReal) (iblk m c 3 t : S128x512.Idx → EReal) (ix2 s d) = (m ((c : Thread nD τ).loc main_arg0) : S8192x14848.Idx → EReal)
      (ix2 (bandRow ⟨t.val, t.isLt⟩ s) (⟨14592 + 64 * (k.val / 64 / 8) + d.val, by omega⟩ : Fin 14848)) := fun s d => by
    rw [band_apply]; congr 2; apply Fin.ext; show 14336 + (256 + 64 * (k.val / 64 / 8)) + d.val = 14592 + 64 * (k.val / 64 / 8) + d.val; omega
  have e := head_apply (k0_pay2 (grid0.coords t)) (band ⟨64 * (k.val / 64 / 8), by omega⟩ (iblk m c 2 t) (iblk m c 3 t)) (band ⟨256 + 64 * (k.val / 64 / 8), by omega⟩ (iblk m c 2 t) (iblk m c 3 t))
    (qcols ⟨k.val / 64, by omega⟩ (X0_1 m c t)) ((iblk m c 0 t : S32.Idx → EReal) (ix1 (⟨k.val / 64, by omega⟩ : Fin 32))) r ⟨k.val % 64, Nat.mod_lt _ (by decide)⟩
  rw [hsc, hk] at e
  simp only [hv] at e
  refine Eq.trans (b := k0_pay11 (F := Ideal) (k0_pay2 (grid0.coords t)) (band ⟨64 * (k.val / 64 / 8), by omega⟩ (iblk m c 2 t) (iblk m c 3 t)) (band ⟨256 + 64 * (k.val / 64 / 8), by omega⟩ (iblk m c 2 t) (iblk m c 3 t))
    (qcols ⟨k.val / 64, by omega⟩ (X0_1 m c t)) ((iblk m c 0 t : S32.Idx → EReal) (ix1 (⟨k.val / 64, by omega⟩ : Fin 32))) (ix2 r ⟨k.val % 64, Nat.mod_lt _ (by decide)⟩)) ?_ ?_
  · unfold outBlk headBlk
    rfl
  · rw [hk]
    exact e

/-- An output array index under a block at a point. -/
theorem emb4 (t : Fin cfg0.N) (y : S128x2048.Idx) :
    ((((cfg0.win 4).blk t).view.emb y : S8192x2048.Idx) 0).val = 128 * t.val + (y 0).val ∧ ((((cfg0.win 4).blk t).view.emb y : S8192x2048.Idx) 1).val = (y 1).val := by
  constructor
  · show win0_4.index t 0 * 128 + 1 * (y 0).val = _; rw [(index4 t).1]; omega
  · show win0_4.index t 1 * 2048 + 1 * (y 1).val = _; rw [(index4 t).2]; omega

/-- A point's block is its part of the whole output. -/
theorem out_apply (c : Dev nD) (t : Fin cfg0.N) (y : S128x2048.Idx) (z : S8192x2048.Idx) (h0 : (z 0).val = 128 * t.val + (y 0).val) (h1 : (z 1).val = (y 1).val) :
    (outsAt0 m c t : S128x2048.Idx → EReal) y = attnOut (m ((c : Thread nD τ).loc main_arg0)) (m ((c : Thread nD τ).loc main_arg1)) z := by
  unfold outsAt0
  have hy : y = ix2 (y 0 : Fin 128) (y 1 : Fin 2048) := by funext a; match a with | ⟨0, _⟩ => rfl | ⟨1, _⟩ => rfl
  rw [out_eq]
  refine (congrArg (outBlk (grid0.coords t) (iblk m c 0 t) (X0_1 m c t) (iblk m c 2 t) (iblk m c 3 t)) hy).trans ((outBlk_apply m c t (y 0) (y 1)).trans ?_)
  have ht : t.val < 64 := t.isLt
  have h2 : (y 0).val < 128 := (y 0).isLt
  unfold attnOut
  congr 1
  · apply Fin.ext; show t.val = _ / 128; omega
  · apply Fin.ext; show (y 0).val = _ % 128; omega
  · apply Fin.ext; show _ / 64 = _ / 64; rw [h1]
  · apply Fin.ext; show _ % 64 = _ % 64; rw [h1]

/-- The output's blocks tile it. -/
theorem covers4 : (cfg0.win 4).Covers := by decide +kernel

/-- The kernel's output array. -/
theorem arr_eq (c : Dev nD) :
    ((dats m 0 c).arrAt 4 cfg0.N : S8192x2048.Idx → EReal) = attnOut (m ((c : Thread nD τ).loc main_arg0)) (m ((c : Thread nD τ).loc main_arg1)) :=
  (dats m 0 c).arrAt_eq_of_covers 4 (attnOut (m ((c : Thread nD τ).loc main_arg0)) (m ((c : Thread nD τ).loc main_arg1))) covers4 fun t hf y => by
    blk_simp
    rw [after0_4]
    exact out_apply m c t y _ (emb4 t y).1 (emb4 t y).2

end Cert.KernelIdeal.Attn
-- ==== Proof.AttnAlg.lean ====
/-
  The algebra of an attention row over the extended reals: weighing by divided weights is dividing the weighed sum.
-/
module

public import proofs.«01_k».proof.Proof.AttnArray
public import proofs.«01_k».proof.Pre_finite_scores

@[expose] public section

noncomputable section

open Idealize.ShloMosaic

namespace Cert.KernelIdeal.Attn

/-- Multiplication by a nonnegative real distributes over a finite sum of extended reals. -/
theorem sum_mul_real {ι : Type} (I : Finset ι) (f : ι → EReal) (c : ℝ) (hc : 0 ≤ c) :
    (∑ i ∈ I, f i) * (c : EReal) = ∑ i ∈ I, f i * (c : EReal) := by
  classical
  induction I using Finset.induction_on with
  | empty => simp
  | insert a I ha ih =>
    rw [Finset.sum_insert ha, Finset.sum_insert ha, ← ih, mul_comm, EReal.left_distrib_of_nonneg_of_ne_top (by exact_mod_cast hc) (EReal.coe_ne_top c),
      mul_comm, mul_comm (∑ i ∈ I, f i)]

/-- A finite sum of reals is a real. -/
theorem sum_coe_real {ι : Type} (I : Finset ι) (f : ι → ℝ) : (∑ i ∈ I, (f i : EReal)) = ((∑ i ∈ I, f i : ℝ) : EReal) := by
  classical
  induction I using Finset.induction_on with
  | empty => simp
  | insert a I ha ih => rw [Finset.sum_insert ha, Finset.sum_insert ha, ih, EReal.coe_add]

/-- The exponential of a difference with a real, below `⊤`: a nonnegative real, zero at `⊥`. -/
theorem exp_sub_real (x : EReal) (μ : ℝ) (hx : x ≠ ⊤) : ∃ e : ℝ, Ideal.exp (x - μ) = e ∧ 0 ≤ e ∧ (x = ⊥ → e = 0) ∧ (x ≠ ⊥ → 0 < e) := by
  induction x with
  | bot => exact ⟨0, by rw [EReal.bot_sub]; rfl, le_rfl, fun _ => rfl, fun h => (h rfl).elim⟩
  | coe y => exact ⟨Real.exp (y - μ), by rw [← EReal.coe_sub]; rfl, (Real.exp_pos _).le, fun h => (EReal.coe_ne_bot y h).elim, fun _ => Real.exp_pos _⟩
  | top => exact (hx rfl).elim

/-- The maximum of scores below `⊤`, one of them real, with a sink below `⊤`, is real. -/
theorem rowMax_real (S : Fin 256 → EReal) (z : EReal) (hS : ∀ s, S s ≠ ⊤) (s0 : Fin 256) (h0 : S s0 ≠ ⊥) (hz : z ≠ ⊤) : ∃ μ : ℝ, rowMax S z = μ := by
  have hb : rowMax S z ≠ ⊥ := by
    intro h
    have h1 : S s0 ≤ rowMax S z := by
      unfold rowMax
      exact le_max_of_le_left (Finset.le_fold_max (S s0) |>.mpr (Or.inr ⟨s0, Finset.mem_univ _, le_rfl⟩))
    rw [h] at h1
    exact h0 (le_bot_iff.mp h1)
  have ht : rowMax S z ≠ ⊤ := by
    have h1 : rowMax S z < ⊤ := by
      unfold rowMax
      exact max_lt ((Finset.fold_max_lt _).mpr ⟨bot_lt_top, fun s _ => lt_top_iff_ne_top.mpr (hS s)⟩) (lt_top_iff_ne_top.mpr hz)
    exact h1.ne
  exact ⟨(rowMax S z).toReal, (EReal.coe_toReal ht hb).symm⟩

/-- Weighing values by divided weights is dividing the weighed sum; masked positions may hold any value. -/
theorem row_eq (S : Fin 256 → EReal) (z : EReal) (V W : Fin 256 → EReal) (hS : ∀ s, S s ≠ ⊤) (s0 : Fin 256) (h0 : S s0 ≠ ⊥) (hz : z ≠ ⊤)
    (hVW : ∀ s, S s ≠ ⊥ → V s = W s) :
    (∑ s : Fin 256, V s * Ideal.div (Ideal.exp (S s - rowMax S z)) ((∑ s : Fin 256, Ideal.exp (S s - rowMax S z)) + Ideal.exp (z - rowMax S z)))
      = Ideal.div (∑ s : Fin 256, Ideal.exp (S s - rowMax S z) * W s) ((∑ s : Fin 256, Ideal.exp (S s - rowMax S z)) + Ideal.exp (z - rowMax S z)) := by
  obtain ⟨μ, hμ⟩ := rowMax_real S z hS s0 h0 hz
  rw [hμ]
  choose e he hnn hbot hpos using fun s => exp_sub_real (S s) μ (hS s)
  obtain ⟨w, hw, hwnn, -, -⟩ := exp_sub_real z μ hz
  have hD : (∑ s : Fin 256, Ideal.exp (S s - μ)) + Ideal.exp (z - μ) = (((∑ s : Fin 256, e s) + w : ℝ) : EReal) := by
    rw [hw, Finset.sum_congr rfl fun s _ => he s, sum_coe_real, EReal.coe_add]
  have hlt : 0 < (∑ s : Fin 256, e s) + w :=
    add_pos_of_pos_of_nonneg (Finset.sum_pos' (fun s _ => hnn s) ⟨s0, Finset.mem_univ _, hpos s0 h0⟩) hwnn
  rw [hD, Ideal.div_coe hlt.ne', sum_mul_real _ _ _ (by positivity)]
  refine Finset.sum_congr rfl fun s _ => ?_
  rw [Ideal.div_coe hlt.ne', ← mul_assoc]
  refine congrArg (· * _) ?_
  rw [he s]
  by_cases hs : S s = ⊥
  · rw [hbot s hs, EReal.coe_zero, mul_zero, zero_mul]
  · rw [hVW s hs, mul_comm]

/-- The scale of the scores is a real. -/
theorem scale_real : ∃ c : ℝ, Ideal.ofBits .f32 0x3E000000#32 = c := by
  exact ⟨8388608 * ((2 : ℝ) ^ 26)⁻¹, by simp [Ideal.ofBits, Ideal.ieee]⟩

/-- What the precondition says: real queries, real keys, sinks below `⊤`. -/
structure Fin3 (A : S8192x14848.Idx → EReal) (K : S32.Idx → EReal) : Prop where
  q : ∀ (a : Fin 8192) (b : Fin 14848), b.val < 2048 → ∃ x : ℝ, A (ix2 a b) = x
  k : ∀ (a : Fin 8192) (b : Fin 14848), 14336 ≤ b.val → b.val < 14592 → ∃ x : ℝ, A (ix2 a b) = x
  z : ∀ h : Fin 32, K (ix1 h) ≠ ⊤

/-- A score is real where the row attends. -/
theorem scoreAt_real (A : S8192x14848.Idx → EReal) (K : S32.Idx → EReal) (H : Fin3 A K) (t : Fin 64) (r : Fin 128) (h : Fin 32) (s : Fin 256)
    (hv : validAt t r s = true) : ∃ x : ℝ, scoreAt A t r h s = x := by
  obtain ⟨c, hc⟩ := scale_real
  choose f hf using fun k : Fin 64 => H.q ⟨128 * t.val + r.val, by omega⟩ ⟨64 * h.val + k.val, by omega⟩ (by show 64 * h.val + k.val < 2048; omega)
  choose g hg using fun k : Fin 64 => H.k (bandRow t s) ⟨14336 + 64 * (h.val / 8) + k.val, by omega⟩ (by show 14336 ≤ 14336 + 64 * (h.val / 8) + k.val; omega)
    (by show 14336 + 64 * (h.val / 8) + k.val < 14592; omega)
  refine ⟨(∑ k : Fin 64, f k * g k) * c, ?_⟩
  unfold scoreAt
  rw [if_pos hv, hc, EReal.coe_mul, ← sum_coe_real]
  refine congrArg (· * (c : EReal)) (Finset.sum_congr rfl fun k _ => ?_)
  rw [hf k, hg k, EReal.coe_mul]

/-- A score is never `⊤`. -/
theorem scoreAt_ne_top (A : S8192x14848.Idx → EReal) (K : S32.Idx → EReal) (H : Fin3 A K) (t : Fin 64) (r : Fin 128) (h : Fin 32) (s : Fin 256) :
    scoreAt A t r h s ≠ ⊤ := by
  by_cases hv : validAt t r s = true
  · obtain ⟨x, hx⟩ := scoreAt_real A K H t r h s hv
    rw [hx]; exact EReal.coe_ne_top x
  · unfold scoreAt
    rw [if_neg hv]; exact bot_ne_top

/-- Every row attends to its own position. -/
theorem valid_self (t : Fin 64) (r : Fin 128) : validAt t r ⟨r.val + 128, by omega⟩ = true := by
  simp [validAt]

/-- The kernel's value from the reference's form of it. -/
theorem attnAt_eq (A : S8192x14848.Idx → EReal) (K : S32.Idx → EReal) (H : Fin3 A K) (t : Fin 64) (r : Fin 128) (h : Fin 32) (d : Fin 64) (V : Fin 256 → EReal)
    (hV : ∀ s, validAt t r s = true → V s = A (ix2 (bandRow t s) (⟨14592 + 64 * (h.val / 8) + d.val, by omega⟩ : Fin 14848))) :
    (∑ s : Fin 256, V s * Ideal.div (Ideal.exp (scoreAt A t r h s - rowMax (scoreAt A t r h) (K (ix1 h))))
        ((∑ s : Fin 256, Ideal.exp (scoreAt A t r h s - rowMax (scoreAt A t r h) (K (ix1 h)))) + Ideal.exp (K (ix1 h) - rowMax (scoreAt A t r h) (K (ix1 h)))))
      = attnAt A K t r h d := by
  refine row_eq (scoreAt A t r h) (K (ix1 h)) V _ (scoreAt_ne_top A K H t r h) ⟨r.val + 128, by omega⟩ ?_ (H.z h) fun s hs => hV s ?_
  · obtain ⟨x, hx⟩ := scoreAt_real A K H t r h _ (valid_self t r)
    rw [hx]; exact EReal.coe_ne_bot x
  · by_contra hv
    refine hs ?_
    unfold scoreAt
    rw [if_neg hv]

/-- A value strictly between the infinities is real. -/
theorem real_of_between (x : EReal) (h1 : ⊥ < x) (h2 : x < ⊤) : ∃ y : ℝ, x = y := ⟨x.toReal, (EReal.coe_toReal h2.ne h1.ne').symm⟩

theorem bf_bot : Ideal.ofBits .bf16 0xFF80#16 = ⊥ := by simp [Ideal.ofBits, Ideal.ieee]
theorem bf_top : Ideal.ofBits .bf16 0x7F80#16 = ⊤ := by simp [Ideal.ofBits, Ideal.ieee]
theorem f_top : Ideal.ofBits .f32 0x7F800000#32 = ⊤ := by simp [Ideal.ofBits, Ideal.ieee]

/-- Two comparisons both true. -/
theorem and_cmp (x a b : EReal) (h : IntOp.andi (BitVec.ofBool (decide (a < x))) (BitVec.ofBool (decide (x < b))) = 1#1) : a < x ∧ x < b := by
  by_cases h1 : a < x <;> by_cases h2 : x < b <;> simp_all [IntOp.andi]

/-- The precondition read at its elements. -/
theorem fin3_of_pre [Cert.Pre_finite_scores.Facts] (A : S8192x14848.Idx → EReal) (K : S32.Idx → EReal)
    (h1 : (Cert.Pre_finite_scores.fn (F := Ideal) A K).1 = (fun _ => 1#1)) (h2 : (Cert.Pre_finite_scores.fn (F := Ideal) A K).2.1 = (fun _ => 1#1))
    (h3 : (Cert.Pre_finite_scores.fn (F := Ideal) A K).2.2 = (fun _ => 1#1)) : Fin3 A K where
  q a b hb := by
    have e : IntOp.andi (BitVec.ofBool (decide (Ideal.ofBits .bf16 0xFF80#16 < A (ix2 a b)))) (BitVec.ofBool (decide (A (ix2 a b) < Ideal.ofBits .bf16 0x7F80#16))) = 1#1 := by
      have e := congrFun h1 (ix2 a (⟨b.val, hb⟩ : Fin 2048))
      have ex : (extractStridedSlice Cert.Pre_finite_scores.S8192x2048 ![0, 0] A Cert.Pre_finite_scores.Facts.slices_S8192x14848_S8192x2048_0_0) (ix2 a (⟨b.val, hb⟩ : Fin 2048)) = A (ix2 a b) :=
        extractStridedSlice_apply ![0, 0] A _ _ (ix2 a b) (fun x => match x with
          | ⟨0, _⟩ => by show a.val = 0 + a.val; omega
          | ⟨1, _⟩ => by show b.val = 0 + b.val; omega)
      rw [← ex]; exact e
    rw [bf_bot, bf_top] at e
    exact real_of_between _ (and_cmp _ _ _ e).1 (and_cmp _ _ _ e).2
  k a b hb hb' := by
    have e : IntOp.andi (BitVec.ofBool (decide (Ideal.ofBits .bf16 0xFF80#16 < A (ix2 a b)))) (BitVec.ofBool (decide (A (ix2 a b) < Ideal.ofBits .bf16 0x7F80#16))) = 1#1 := by
      have e := congrFun h2 (ix2 a (⟨b.val - 14336, by omega⟩ : Fin 256))
      have ex : (extractStridedSlice Cert.Pre_finite_scores.S8192x256 ![0, 14336] A Cert.Pre_finite_scores.Facts.slices_S8192x14848_S8192x256_0_14336) (ix2 a (⟨b.val - 14336, by omega⟩ : Fin 256)) = A (ix2 a b) :=
        extractStridedSlice_apply ![0, 14336] A _ _ (ix2 a b) (fun x => match x with
          | ⟨0, _⟩ => by show a.val = 0 + a.val; omega
          | ⟨1, _⟩ => by show b.val = 14336 + (b.val - 14336); omega)
      rw [← ex]; exact e
    rw [bf_bot, bf_top] at e
    exact real_of_between _ (and_cmp _ _ _ e).1 (and_cmp _ _ _ e).2
  z h := by
    have e : BitVec.ofBool (decide (K (ix1 h) < Ideal.ofBits .f32 0x7F800000#32)) = 1#1 := congrFun h3 (ix1 h)
    rw [f_top] at e
    intro hh
    rw [hh] at e
    simp at e

end Cert.KernelIdeal.Attn
-- ==== Proof.AttnRef.lean ====
/-
  The reference attention, read at an index of its result.
-/
module

public import proofs.«01_k».proof.Proof.AttnArray
public import proofs.«01_k».proof.Proof.Gen.ReferenceIdeal.Read
public import Idealize.ShloMosaic.Lib.ValueIdxRank6

@[expose] public section

noncomputable section

open Idealize.ShloMosaic Idealize.ShloMosaic.TcCoe Idealize.SL.Sem

namespace Cert.ReferenceIdeal.Attn

open Cert.ReferenceIdeal Cert.ReferenceIdeal.Read
open Cert.KernelIdeal.Attn (scoreAt rowMax bandRow validAt)

/-- A two-axis array at natural coordinates, zero outside. -/
def at2 (A : S8192x14848.Idx → EReal) (a b : Nat) : EReal :=
  if h : a < 8192 ∧ b < 14848 then A (ix2 (⟨a, h.1⟩ : Fin 8192) (⟨b, h.2⟩ : Fin 14848)) else 0

theorem at2_ix2 (A : S8192x14848.Idx → EReal) (a : Fin 8192) (b : Fin 14848) : A (ix2 a b) = at2 A a.val b.val := by
  unfold at2; rw [dif_pos ⟨a.isLt, b.isLt⟩]

theorem at2_idx (A : S8192x14848.Idx → EReal) (j : S8192x14848.Idx) (a b : Nat) (ha : (j 0).val = a) (hb : (j 1).val = b) : A j = at2 A a b := by
  subst ha hb
  rw [← at2_ix2 A (j 0) (j 1)]
  congr 1; funext x; match x with | ⟨0, _⟩ => rfl | ⟨1, _⟩ => rfl

variable (A : S8192x14848.Idx → EReal) (K : S32.Idx → EReal)

/-- The queries, by batch, block, row, group, head and column. -/
theorem v7_apply (i : S2x32x128x4x8x64.Idx) :
    val_main_v7 (F := Ideal) A i = at2 A (((i 0).val * 32 + (i 1).val) * 128 + (i 2).val) (((i 3).val * 8 + (i 4).val) * 64 + (i 5).val) := by
  have h0 : (i 0).val < 2 := (i 0).isLt
  have h1 : (i 1).val < 32 := (i 1).isLt
  have h2 : (i 2).val < 128 := (i 2).isLt
  have h3 : (i 3).val < 4 := (i 3).isLt
  have h4 : (i 4).val < 8 := (i 4).isLt
  have h5 : (i 5).val < 64 := (i 5).isLt
  unfold val_main_v7
  rw [shapeCast_apply (val_main_v2 (F := Ideal) A) Gen.shapeCasts_S2x4096x4x8x64_S2x32x128x4x8x64 i
    (ix5 (⟨(i 0).val, h0⟩ : Fin 2) (⟨(i 1).val * 128 + (i 2).val, by omega⟩ : Fin 4096) (⟨(i 3).val, h3⟩ : Fin 4) (⟨(i 4).val, h4⟩ : Fin 8) (⟨(i 5).val, h5⟩ : Fin 64))
    (by rw [Shape.rowMajor_val_six, Shape.rowMajor_val_five]
        show ((((i 0).val * 4096 + ((i 1).val * 128 + (i 2).val)) * 4 + (i 3).val) * 8 + (i 4).val) * 64 + (i 5).val = (((((i 0).val * 32 + (i 1).val) * 128 + (i 2).val) * 4 + (i 3).val) * 8 + (i 4).val) * 64 + (i 5).val
        omega),
    val_main_v2_apply, val_main_v1_apply]
  refine at2_idx A _ _ _ ?_ ?_
  · show (((((i 0).val * 4096 + ((i 1).val * 128 + (i 2).val)) * 4 + (i 3).val) * 8 + (i 4).val) * 64 + (i 5).val) / 2048 = _
    omega
  · show (((((i 0).val * 4096 + ((i 1).val * 128 + (i 2).val)) * 4 + (i 3).val) * 8 + (i 4).val) * 64 + (i 5).val) % 2048 = _
    omega

/-- The keys, by batch, block, row, group and column. -/
theorem v8_apply (i : S2x32x128x4x64.Idx) :
    val_main_v8 (F := Ideal) A i = at2 A (((i 0).val * 32 + (i 1).val) * 128 + (i 2).val) (14336 + (i 3).val * 64 + (i 4).val) := by
  have h0 : (i 0).val < 2 := (i 0).isLt
  have h1 : (i 1).val < 32 := (i 1).isLt
  have h2 : (i 2).val < 128 := (i 2).isLt
  have h3 : (i 3).val < 4 := (i 3).isLt
  have h4 : (i 4).val < 64 := (i 4).isLt
  rw [val_main_v8_apply, val_main_v4_apply, val_main_v3_apply]
  refine at2_idx A _ _ _ ?_ ?_
  · dsimp only [idx_main_v8, idx_main_v4, idx_main_v3]
    omega
  · dsimp only [idx_main_v8, idx_main_v4, idx_main_v3]
    omega

/-- The values, by batch, block, row, group and column. -/
theorem v14_apply (i : S2x32x128x4x64.Idx) :
    val_main_v14 (F := Ideal) A i = at2 A (((i 0).val * 32 + (i 1).val) * 128 + (i 2).val) (14592 + (i 3).val * 64 + (i 4).val) := by
  have h0 : (i 0).val < 2 := (i 0).isLt
  have h1 : (i 1).val < 32 := (i 1).isLt
  have h2 : (i 2).val < 128 := (i 2).isLt
  have h3 : (i 3).val < 4 := (i 3).isLt
  have h4 : (i 4).val < 64 := (i 4).isLt
  rw [val_main_v14_apply, val_main_v6_apply, val_main_v5_apply]
  refine at2_idx A _ _ _ ?_ ?_
  · dsimp only [idx_main_v14, idx_main_v6, idx_main_v5]
    omega
  · dsimp only [idx_main_v14, idx_main_v6, idx_main_v5]
    omega

/-- The mask at a block, row and band position. -/
theorem mask_apply (i : S2x32x4x8x128x256.Idx) :
    val_main_call0_v1 (F := Ideal) i = BitVec.ofBool (decide ((i 4).val < (i 5).val) && decide ((i 5).val ≤ (i 4).val + 128) && (decide (128 ≤ (i 5).val) || decide (0 < (i 1).val))) := by
  simp only [val_main_call0_v1_apply, val_main_v51_apply, val_main_v50_apply, val_main_v49_apply, val_main_v48_apply, val_main_v47_apply, val_main_v46_apply, val_main_v45_apply, val_main_v44_apply, val_main_v43_apply, val_main_v42_apply, val_main_v41_apply, val_main_c_3_apply, val_main_v40_apply, val_main_v39_apply, val_main_v38_apply, val_main_c_2_apply, val_main_v37_apply, val_main_v36_apply, val_main_v35_apply, val_main_v34_apply, val_main_v33_apply, val_main_v32_apply, val_main_v31_apply, val_main_c_apply, val_main_v30_apply, val_main_v29_apply, val_main_v28_apply, val_main_v27_apply, val_main_v26_apply, val_main_v25_apply, val_main_v24_apply]
  have h1 : (i 1).val < 32 := (i 1).isLt
  have h4 : (i 4).val < 128 := (i 4).isLt
  have h5 : (i 5).val < 256 := (i 5).isLt
  have ea : IntOp.addi (BitVec.ofNat 32 (i 4).val) 128#32 = BitVec.ofNat 32 ((i 4).val + 128) := by
    apply BitVec.eq_of_toNat_eq; simp [IntOp.addi]
  rw [ea, WordCmp.cmpi_sgt_ofNat (by norm_num; omega) (by norm_num; omega), WordCmp.cmpi_sle_ofNat (by norm_num; omega) (by norm_num; omega),
    WordCmp.cmpi_sgt_ofNat (by norm_num; omega) (by norm_num), WordCmp.cmpi_sge_ofNat (by norm_num; omega) (by norm_num)]
  generalize decide ((i 4).val < (i 5).val) = a
  generalize decide ((i 5).val ≤ (i 4).val + 128) = b
  generalize decide (0 < (i 1).val) = d
  generalize decide (128 ≤ (i 5).val) = e
  revert a b d e
  decide

/-- A band of two blocks where it is not the missing block before the first. -/
theorem band_v13 (i : S2x32x256x4x64.Idx) (t : Fin 64) (s : Fin 256) (ht : t.val = 32 * (i 0).val + (i 1).val) (hs : s.val = (i 2).val)
    (hv : 128 ≤ s.val ∨ 0 < t.val % 32) :
    val_main_v13 (F := Ideal) A i = at2 A (bandRow t s).val (14336 + (i 3).val * 64 + (i 4).val) := by
  have h0 : (i 0).val < 2 := (i 0).isLt
  have h1 : (i 1).val < 32 := (i 1).isLt
  have h2 : (i 2).val < 256 := (i 2).isLt
  unfold val_main_v13
  by_cases hlt : s.val < 128
  · have hpos : 0 < (i 1).val := by omega
    rw [concatenate_pair_apply_left (t := S2x32x256x4x64) (s₁ := S2x32x128x4x64) (s₂ := S2x32x128x4x64) 2 _ _ _ i rfl
      (ix5 (i 0) (i 1) (⟨(i 2).val, by omega⟩ : Fin 128) (i 3) (i 4)) (fun b => match b with | ⟨0, _⟩ => rfl | ⟨1, _⟩ => rfl | ⟨2, _⟩ => rfl | ⟨3, _⟩ => rfl | ⟨4, _⟩ => rfl)]
    unfold val_main_v12
    rw [concatenate_pair_apply_right (t := S2x32x128x4x64) (s₁ := S2x1x128x4x64) (s₂ := S2x31x128x4x64) 1 _ _ _ _ rfl rfl
      (ix5 (i 0) (⟨(i 1).val - 1, by omega⟩ : Fin 31) (⟨(i 2).val, by omega⟩ : Fin 128) (i 3) (i 4))
      (fun b hb => match b, hb with | ⟨0, _⟩, _ => rfl | ⟨1, _⟩, hb => (hb rfl).elim | ⟨2, _⟩, _ => rfl | ⟨3, _⟩, _ => rfl | ⟨4, _⟩, _ => rfl)
      (by show ((i 1).val - 1) + 1 = (i 1).val; omega)]
    rw [val_main_v11_apply, v8_apply]
    congr 1
    unfold bandRow
    rw [if_pos hlt]
    show ((i 0).val * 32 + ((i 1).val - 1)) * 128 + (i 2).val = 128 * (if t.val % 32 = 0 then t.val else t.val - 1) + s.val % 128
    rw [if_neg (by omega)]
    omega
  · rw [concatenate_pair_apply_right (t := S2x32x256x4x64) (s₁ := S2x32x128x4x64) (s₂ := S2x32x128x4x64) 2 _ _ _ i rfl rfl
      (ix5 (i 0) (i 1) (⟨(i 2).val - 128, by omega⟩ : Fin 128) (i 3) (i 4))
      (fun b hb => match b, hb with | ⟨0, _⟩, _ => rfl | ⟨1, _⟩, _ => rfl | ⟨2, _⟩, hb => (hb rfl).elim | ⟨3, _⟩, _ => rfl | ⟨4, _⟩, _ => rfl)
      (by show ((i 2).val - 128) + 128 = (i 2).val; omega)]
    rw [v8_apply]
    congr 1
    unfold bandRow
    rw [if_neg hlt]
    show ((i 0).val * 32 + (i 1).val) * 128 + ((i 2).val - 128) = 128 * t.val + s.val % 128
    omega

/-- The same for the values. -/
theorem band_v19 (i : S2x32x256x4x64.Idx) (t : Fin 64) (s : Fin 256) (ht : t.val = 32 * (i 0).val + (i 1).val) (hs : s.val = (i 2).val)
    (hv : 128 ≤ s.val ∨ 0 < t.val % 32) :
    val_main_v19 (F := Ideal) A i = at2 A (bandRow t s).val (14592 + (i 3).val * 64 + (i 4).val) := by
  have h0 : (i 0).val < 2 := (i 0).isLt
  have h1 : (i 1).val < 32 := (i 1).isLt
  have h2 : (i 2).val < 256 := (i 2).isLt
  unfold val_main_v19
  by_cases hlt : s.val < 128
  · have hpos : 0 < (i 1).val := by omega
    rw [concatenate_pair_apply_left (t := S2x32x256x4x64) (s₁ := S2x32x128x4x64) (s₂ := S2x32x128x4x64) 2 _ _ _ i rfl
      (ix5 (i 0) (i 1) (⟨(i 2).val, by omega⟩ : Fin 128) (i 3) (i 4)) (fun b => match b with | ⟨0, _⟩ => rfl | ⟨1, _⟩ => rfl | ⟨2, _⟩ => rfl | ⟨3, _⟩ => rfl | ⟨4, _⟩ => rfl)]
    unfold val_main_v18
    rw [concatenate_pair_apply_right (t := S2x32x128x4x64) (s₁ := S2x1x128x4x64) (s₂ := S2x31x128x4x64) 1 _ _ _ _ rfl rfl
      (ix5 (i 0) (⟨(i 1).val - 1, by omega⟩ : Fin 31) (⟨(i 2).val, by omega⟩ : Fin 128) (i 3) (i 4))
      (fun b hb => match b, hb with | ⟨0, _⟩, _ => rfl | ⟨1, _⟩, hb => (hb rfl).elim | ⟨2, _⟩, _ => rfl | ⟨3, _⟩, _ => rfl | ⟨4, _⟩, _ => rfl)
      (by show ((i 1).val - 1) + 1 = (i 1).val; omega)]
    rw [val_main_v17_apply, v14_apply]
    congr 1
    unfold bandRow
    rw [if_pos hlt]
    show ((i 0).val * 32 + ((i 1).val - 1)) * 128 + (i 2).val = 128 * (if t.val % 32 = 0 then t.val else t.val - 1) + s.val % 128
    rw [if_neg (by omega)]
    omega
  · rw [concatenate_pair_apply_right (t := S2x32x256x4x64) (s₁ := S2x32x128x4x64) (s₂ := S2x32x128x4x64) 2 _ _ _ i rfl rfl
      (ix5 (i 0) (i 1) (⟨(i 2).val - 128, by omega⟩ : Fin 128) (i 3) (i 4))
      (fun b hb => match b, hb with | ⟨0, _⟩, _ => rfl | ⟨1, _⟩, _ => rfl | ⟨2, _⟩, hb => (hb rfl).elim | ⟨3, _⟩, _ => rfl | ⟨4, _⟩, _ => rfl)
      (by show ((i 2).val - 128) + 128 = (i 2).val; omega)]
    rw [v14_apply]
    congr 1
    unfold bandRow
    rw [if_neg hlt]
    show ((i 0).val * 32 + (i 1).val) * 128 + ((i 2).val - 128) = 128 * t.val + s.val % 128
    omega

/-- The masked scores. -/
theorem v52_apply (i : S2x32x4x8x128x256.Idx) (t : Fin 64) (r : Fin 128) (h : Fin 32) (s : Fin 256) (ht : t.val = 32 * (i 0).val + (i 1).val)
    (hr : r.val = (i 4).val) (hh : h.val = (i 2).val * 8 + (i 3).val) (hs : s.val = (i 5).val) :
    val_main_v52 (F := Ideal) A i = scoreAt A t r h s := by
  have h0 : (i 0).val < 2 := (i 0).isLt
  have h1 : (i 1).val < 32 := (i 1).isLt
  have h3 : (i 3).val < 8 := (i 3).isLt
  rw [val_main_v52_apply, mask_apply]
  have e : (decide ((i 4).val < (i 5).val) && decide ((i 5).val ≤ (i 4).val + 128) && (decide (128 ≤ (i 5).val) || decide (0 < (i 1).val))) = validAt t r s := by
    unfold validAt
    rw [hr, hs, show t.val % 32 = (i 1).val by omega]
  rw [e]
  unfold scoreAt
  by_cases hv : validAt t r s = true
  · rw [hv, if_pos rfl]
    have hb : 128 ≤ s.val ∨ 0 < t.val % 32 := by
      unfold validAt at hv
      simp only [Bool.and_eq_true, Bool.or_eq_true, decide_eq_true_eq] at hv
      exact hv.2
    show val_main_v23 (F := Ideal) A i = _
    rw [val_main_v23_apply, val_main_v21_apply, val_main_v20_apply, val_main_v22_apply, val_main_cst_1_apply]
    refine congrArg (· * Ideal.ofBits .f32 0x3E000000#32) (Finset.sum_congr rfl fun k _ => ?_)
    rw [band_v13 A _ t s ht hs hb, v7_apply, at2_ix2 A, at2_ix2 A, mul_comm]
    refine congrArg₂ (· * ·) (congrArg₂ (at2 A) ?_ ?_) (congrArg₂ (at2 A) rfl ?_)
    · show ((i 0).val * 32 + (i 1).val) * 128 + (i 4).val = 128 * t.val + r.val
      omega
    · show ((i 2).val * 8 + (i 3).val) * 64 + k.val = 64 * h.val + k.val
      omega
    · show 14336 + (i 2).val * 64 + k.val = 14336 + 64 * (h.val / 8) + k.val
      omega
  · rw [Bool.not_eq_true] at hv
    rw [hv]
    show val_main_call0_v2 (F := Ideal) i = ⊥
    rw [val_main_call0_v2_apply, val_main_call0_v0_apply, val_main_cst_4_apply]
    exact Cert.KernelIdeal.Attn.ofBits_bot

/-- The row's maximum with its sink. -/
theorem v58_apply (i : S2x32x4x8x128x1.Idx) (t : Fin 64) (r : Fin 128) (h : Fin 32) (ht : t.val = 32 * (i 0).val + (i 1).val)
    (hr : r.val = (i 4).val) (hh : h.val = (i 2).val * 8 + (i 3).val) :
    val_main_v58 (F := Ideal) A K i = rowMax (scoreAt A t r h) (K (ix1 h)) := by
  rw [val_main_v58_apply, val_main_v57_apply, val_main_v54_apply, val_main_v53_apply, val_main_v56_apply]
  unfold rowMax
  refine congrArg₂ max ?_ (congrArg K ?_)
  · unfold val_main_v55
    rw [Host.reduce_eq_fold_single _ _ _ _ (by decide : S2x32x4x8x128x256.Reduces [5] S2x32x4x8x128) _ _]
    refine congrArg₂ (fun b f => (Finset.univ : Finset (Fin 256)).fold max b f) Cert.KernelIdeal.Attn.ofBits_bot (funext fun s => ?_)
    exact v52_apply A _ t r h s ht hr hh rfl
  · funext a; match a with | ⟨0, _⟩ => exact Fin.ext hh.symm

/-- The weights before the division. -/
theorem v61_apply (i : S2x32x4x8x128x256.Idx) (t : Fin 64) (r : Fin 128) (h : Fin 32) (s : Fin 256) (ht : t.val = 32 * (i 0).val + (i 1).val)
    (hr : r.val = (i 4).val) (hh : h.val = (i 2).val * 8 + (i 3).val) (hs : s.val = (i 5).val) :
    val_main_v61 (F := Ideal) A K i = Ideal.exp (scoreAt A t r h s - rowMax (scoreAt A t r h) (K (ix1 h))) := by
  rw [val_main_v61_apply, val_main_v60_apply, val_main_v59_apply, v52_apply A i t r h s ht hr hh hs, v58_apply A K _ t r h ht hr hh]
  rfl

/-- The divisor. -/
theorem v67_apply (i : S2x32x4x8x128x1.Idx) (t : Fin 64) (r : Fin 128) (h : Fin 32) (ht : t.val = 32 * (i 0).val + (i 1).val)
    (hr : r.val = (i 4).val) (hh : h.val = (i 2).val * 8 + (i 3).val) :
    val_main_v67 (F := Ideal) A K i = (∑ s : Fin 256, Ideal.exp (scoreAt A t r h s - rowMax (scoreAt A t r h) (K (ix1 h))))
      + Ideal.exp (K (ix1 h) - rowMax (scoreAt A t r h) (K (ix1 h))) := by
  rw [val_main_v67_apply, val_main_v63_apply, val_main_v62_apply, val_main_v66_apply, val_main_v65_apply, val_main_v64_apply, val_main_v54_apply, val_main_v53_apply,
    v58_apply A K i t r h ht hr hh]
  refine congrArg₂ (· + ·) ?_ (congrArg (fun x => Ideal.exp (x - rowMax (scoreAt A t r h) (K (ix1 h)))) (congrArg K ?_))
  · have e0 : (val_main_cst_6 (F := Ideal)) (Shape.Idx.first Gen.h_S_) = (0 : EReal) := by
      rw [val_main_cst_6_apply]; exact Ideal.ofBits_zero _
    rw [e0, zero_add]
    exact Finset.sum_congr rfl fun s _ => v61_apply A K _ t r h s ht hr hh rfl
  · funext a; match a with | ⟨0, _⟩ => exact Fin.ext hh.symm

/-- The result at a row and a column: some values, those of the band where the row attends, weighed by the divided weights. -/
theorem v73_apply (j : S8192x2048.Idx) (t : Fin 64) (r : Fin 128) (h : Fin 32) (d : Fin 64) (hj0 : (j 0).val = 128 * t.val + r.val) (hj1 : (j 1).val = 64 * h.val + d.val) :
    ∃ V : Fin 256 → EReal, (∀ s, validAt t r s = true → V s = A (ix2 (bandRow t s) (⟨14592 + 64 * (h.val / 8) + d.val, by omega⟩ : Fin 14848))) ∧
      val_main_v73 (F := Ideal) A K j = ∑ s : Fin 256, V s * Ideal.div (Ideal.exp (scoreAt A t r h s - rowMax (scoreAt A t r h) (K (ix1 h))))
        ((∑ s : Fin 256, Ideal.exp (scoreAt A t r h s - rowMax (scoreAt A t r h) (K (ix1 h)))) + Ideal.exp (K (ix1 h) - rowMax (scoreAt A t r h) (K (ix1 h)))) := by
  have tl := t.isLt
  have rl := r.isLt
  have hl := h.isLt
  have dl := d.isLt
  set i : S2x32x128x4x8x64.Idx := ix6 (⟨t.val / 32, by omega⟩ : Fin 2) (⟨t.val % 32, by omega⟩ : Fin 32) r (⟨h.val / 8, by omega⟩ : Fin 4) (⟨h.val % 8, by omega⟩ : Fin 8) d with hi
  have ht : t.val = 32 * (t.val / 32) + t.val % 32 := by omega
  have hh : h.val = h.val / 8 * 8 + h.val % 8 := by omega
  refine ⟨fun s => val_main_v19 (F := Ideal) A (lidx_main_v70 (idx_main_v71 i) s), fun s hv => ?_, ?_⟩
  · have hb : 128 ≤ s.val ∨ 0 < t.val % 32 := by
      unfold validAt at hv
      simp only [Bool.and_eq_true, Bool.or_eq_true, decide_eq_true_eq] at hv
      exact hv.2
    show val_main_v19 (F := Ideal) A _ = _
    rw [band_v19 A _ t s ht rfl hb, at2_ix2 A]
    refine congrArg₂ (at2 A) rfl ?_
    show 14592 + h.val / 8 * 64 + d.val = 14592 + 64 * (h.val / 8) + d.val
    omega
  · rw [val_main_v73_apply]
    show val_main_v72 (F := Ideal) A K j = _
    unfold val_main_v72
    rw [shapeCast_apply (val_main_v71 (F := Ideal) A K) Gen.shapeCasts_S2x32x128x4x8x64_S8192x2048 j i
      (by rw [Shape.rowMajor_val_six, Shape.rowMajor_val_two]
          show ((((t.val / 32 * 32 + t.val % 32) * 128 + r.val) * 4 + h.val / 8) * 8 + h.val % 8) * 64 + d.val = (j 0).val * 2048 + (j 1).val
          omega),
      val_main_v71_apply, val_main_v70_apply]
    refine Finset.sum_congr rfl fun s _ => congrArg (val_main_v19 (F := Ideal) A (lidx_main_v70 (idx_main_v71 i) s) * ·) ?_
    rw [val_main_v69_apply, val_main_v68_apply, v61_apply A K _ t r h s ht rfl hh rfl, v67_apply A K _ t r h ht rfl hh]
    rfl

end Cert.ReferenceIdeal.Attn
-- ==== Proof.AttnClaim.lean ====
/-
  The attention's value claim, put together.
-/
module

public import proofs.«01_k».proof.Defs
public import proofs.«01_k».proof.Proof.AttnAlg
public import proofs.«01_k».proof.Proof.AttnRef
public import proofs.«01_k».proof.Proof.Gen.Kernel
public import proofs.«01_k».proof.Proof.Gen.KernelIdeal.Value
public import proofs.«01_k».proof.Proof.Gen.ReferenceIdeal.Run

@[expose] public section

noncomputable section

open Idealize.ShloMosaic Idealize.ShloMosaic.TcCoe Idealize.SL.Sem

namespace Cert.Proof.Attn

open Cert.KernelIdeal.Attn

/-- The shape facts of the precondition. -/
theorem preFacts : Cert.Pre_finite_scores.Facts where
  slices_S8192x14848_S8192x2048_0_0 := by decide
  slices_S8192x14848_S8192x256_0_14336 := by decide
  bcast_S_S8192x2048 := by decide
  bcast_S_S8192x256 := by decide
  bcast_S_S32 := by decide

/-- The reference runs, keeps its arguments, and has no semaphore to leave nonzero. -/
theorem frame_r (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => (h c).2, sem_eq_zero_of_no_sems (by decide) r.2⟩) (Cert.ReferenceIdeal.Value.run (F := Ideal) m ρ)

/-- Both results are the same array of extended reals. -/
theorem result_eq (A : Cert.KernelIdeal.S8192x14848.Idx → EReal) (K : Cert.KernelIdeal.S32.Idx → EReal) (H : Fin3 A K) :
    (Cert.ReferenceIdeal.Read.val_main_v73 (F := Ideal) A K : Cert.KernelIdeal.S8192x2048.Idx → EReal) = attnOut A K := by
  funext j
  have h0 : (j 0).val < 8192 := (j 0).isLt
  have h1 : (j 1).val < 2048 := (j 1).isLt
  obtain ⟨V, hV, e⟩ := Cert.ReferenceIdeal.Attn.v73_apply A K j ⟨(j 0).val / 128, by omega⟩ ⟨(j 0).val % 128, Nat.mod_lt _ (by decide)⟩
    ⟨(j 1).val / 64, by omega⟩ ⟨(j 1).val % 64, Nat.mod_lt _ (by decide)⟩
    (by show (j 0).val = 128 * ((j 0).val / 128) + (j 0).val % 128; omega) (by show (j 1).val = 64 * ((j 1).val / 64) + (j 1).val % 64; omega)
  exact e.trans (attnAt_eq A K H _ _ _ _ V hV)

/-- The attention kernel computes the reference attention. -/
theorem algebraic : Cert.algebraic_KernelIdeal_ReferenceIdeal_pre_finite_scores (hKernelIdeal := Cert.KernelIdeal.Gen.facts)
    (hReferenceIdeal := Cert.ReferenceIdeal.Gen.facts) (hPre_finite_scores := preFacts) := by
  intro m g m' g' hpre hagree
  have hv : ∀ c : Dev Cert.KernelIdeal.nD, Cert.ReferenceIdeal.Value.res_main_v73 m' c
      = ((Cert.KernelIdeal.Gen.dats m 0 c).arrAt 4 Cert.KernelIdeal.cfg0.N : Cert.KernelIdeal.S8192x2048.Idx → EReal) := by
    intro c
    obtain ⟨p1, p2, p3⟩ := hpre c
    rw [Cert.ReferenceIdeal.Read.val_main_v73_eq m' c, (hagree c).1, (hagree c).2, arr_eq]
    haveI := preFacts
    exact result_eq _ _ (fin3_of_pre _ _ p1 p2 p3)
  refine ⟨fun c => (Cert.KernelIdeal.Gen.dats m 0 c).arrAt 4 Cert.KernelIdeal.cfg0.N, Cert.KernelIdeal.Value.run_blocks m g, ?_⟩
  refine (θ_run _ _ _).mono (fun r h c => ⟨(h c).1.trans (hv c), (h c).2⟩) (Cert.ReferenceIdeal.Value.run m' g')

end Cert.Proof.Attn
-- ==== Proof.Norm.lean ====
/-
  A row normalised by the root of its mean square, times a gain, then scaled and shifted: the function of a row that
  both the projection and the merge apply before their products.
-/
module

public import Idealize.ShloMosaic.PureOps.Ideal

@[expose] public section

noncomputable section

open Idealize.ShloMosaic

namespace Cert.Norm

/-- Entry `k` of the row `x` divided by the root of its mean square (and a small constant), times the gain `g`, times
    one plus `sc`, plus `sh`. -/
def normAt (x g sc sh : Fin 2048 → EReal) (k : Fin 2048) : EReal :=
  x k * Ideal.rsqrt (Ideal.div (∑ l : Fin 2048, x l * x l) (Ideal.ofBits .f32 0x45000000#32) + Ideal.ofBits .f32 0x358637BD#32) * g k
    * (1 + sc k) + sh k

end Cert.Norm
-- ==== Proof.ProjBlock.lean ====
/-
  What one grid point of the projection leaves in its output block, and in the rows it keeps from the first point of a
  row block: the rows normalised and modulated, and their product with the point's columns of the weights.
-/
module

public import proofs.«01_k».proof.Proof.Gen.Kernel2Ideal.Value
public import proofs.«01_k».proof.Proof.Norm
public import Idealize.ShloMosaic.Lib.Pointwise

@[expose] public section

noncomputable section

open Idealize.ShloMosaic Idealize.ShloMosaic.TcCoe Idealize.SL.Sem

namespace Cert.Kernel2Ideal.Proj

open Cert.Kernel2Ideal Cert.Kernel2Ideal.Gen Cert.Norm

theorem hz : (![0, 0] : Fin 2 → Nat) = fun _ => 0 := funext fun a => by fin_cases a <;> rfl

/-- Row 1 of the modulation block. -/
def row1 (x2 : Vec Ideal S1x6x2048 .f32) : Vec Ideal S1x1x2048 .f32 := fun j => x2 (ix3 (0 : Fin 1) (1 : Fin 6) (⟨(j 2).val, (j 2).isLt⟩ : Fin 2048))
/-- Row 0 of the modulation block. -/
def row0 (x2 : Vec Ideal S1x6x2048 .f32) : Vec Ideal S1x1x2048 .f32 := fun j => x2 (ix3 (0 : Fin 1) (0 : Fin 6) (⟨(j 2).val, (j 2).isLt⟩ : Fin 2048))

/-- The load of row 1. -/
theorem ld_row1 (x2 : Vec Ideal S1x6x2048 .f32) :
    View.ld x2 (Rect.unit (s := S1x6x2048) ![0, 1, 0] ![1, 1, 2048] inb_S1x6x2048_S1x1x2048_0_1_0) = row1 x2 := by
  funext j
  unfold row1
  show x2 _ = x2 _
  have h0 : (j 0).val < 1 := (j 0).isLt
  have h1 : (j 1).val < 1 := (j 1).isLt
  congr 1; funext a; apply Fin.ext; match a with
  | ⟨0, _⟩ => show 0 + 1 * (j 0).val = 0; omega
  | ⟨1, _⟩ => show 1 + 1 * (j 1).val = 1; omega
  | ⟨2, _⟩ => show 0 + 1 * (j 2).val = (j 2).val; omega

/-- The load of row 0. -/
theorem ld_row0 (x2 : Vec Ideal S1x6x2048 .f32) :
    View.ld x2 (Rect.unit (s := S1x6x2048) ![0, 0, 0] ![1, 1, 2048] inb_S1x6x2048_S1x1x2048_0_0_0) = row0 x2 := by
  funext j
  unfold row0
  show x2 _ = x2 _
  have h0 : (j 0).val < 1 := (j 0).isLt
  have h1 : (j 1).val < 1 := (j 1).isLt
  congr 1; funext a; apply Fin.ext; match a with
  | ⟨0, _⟩ => show 0 + 1 * (j 0).val = 0; omega
  | ⟨1, _⟩ => show 0 + 1 * (j 1).val = 0; omega
  | ⟨2, _⟩ => show 0 + 1 * (j 2).val = (j 2).val; omega

/-- The rows kept, at an index. -/
theorem pay1_apply (v9 : Vec Ideal S1024x2048 .f32) (v20 : Vec Ideal S1x2048 .f32) (v23 v29 : Vec Ideal S1x1x2048 .f32) (r : Fin 1024) (k : Fin 2048) :
    (k0_pay1 (F := Ideal) v9 v20 v23 v29 : S1024x2048.Idx → EReal) (ix2 r k)
      = normAt (fun l => v9 (ix2 r l)) (fun l => v20 (ix2 (0 : Fin 1) l)) (fun l => v23 (ix3 (0 : Fin 1) (0 : Fin 1) l)) (fun l => v29 (ix3 (0 : Fin 1) (0 : Fin 1) l)) k := by
  unfold k0_pay1
  pointwise
  rfl

/-- The output block, at an index. -/
theorem pay2_apply (v3 : Vec Ideal S1024x2048 .bf16) (v4 : Vec Ideal S2048x512 .f32) (r : Fin 1024) (n : Fin 512) :
    (k0_pay2 (F := Ideal) v3 v4 : S1024x512.Idx → EReal) (ix2 r n) = ∑ k : Fin 2048, v3 (ix2 r k) * v4 (ix2 k n) := by
  unfold k0_pay2
  pointwise

theorem out_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x6x2048 .f32) (harg4 : arg4.IsWhole) (arg5 : Memref sig .tc .vmem S2048x512 .f32) (harg5 : arg5.IsWhole) (arg6 : Memref sig .tc .vmem S1024x512 .bf16) (harg6 : arg6.IsWhole) (arg7 : Memref sig .tc .vmem S1024x2048 .bf16) (harg7 : arg7.IsWhole) (hc0 : ¬cond0_0 i)
    (x0 : Vec Ideal S1024x2048 .f32) (x1 : Vec Ideal S1x2048 .f32) (x2 : Vec Ideal S1x6x2048 .f32) (x3 : Vec Ideal S2048x512 .f32) (xs0 : Vec Ideal S1024x2048 .bf16) :
    out0_B_4 c i arg2 harg2 arg3 harg3 arg4 harg4 arg5 harg5 arg6 harg6 arg7 harg7 hc0 x0 x1 x2 x3 xs0 = k0_pay2 (F := Ideal) xs0 x3 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  sl_unfold_words
  rw [View.canon_unit_zero hz]
  simp only [View.readAt_eq_ld, harg5.read_unread, harg7.read_unread, View.ld_unit_zero (S := S1024x2048) hz, View.ld_unit_zero (S := S2048x512) hz, shapeCast_self]

theorem sout_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x6x2048 .f32) (harg4 : arg4.IsWhole) (arg5 : Memref sig .tc .vmem S2048x512 .f32) (harg5 : arg5.IsWhole) (arg6 : Memref sig .tc .vmem S1024x512 .bf16) (harg6 : arg6.IsWhole) (arg7 : Memref sig .tc .vmem S1024x2048 .bf16) (harg7 : arg7.IsWhole) (hc0 : cond0_0 i)
    (x0 : Vec Ideal S1024x2048 .f32) (x1 : Vec Ideal S1x2048 .f32) (x2 : Vec Ideal S1x6x2048 .f32) (x3 : Vec Ideal S2048x512 .f32) :
    sout0_A_0 c i arg2 harg2 arg3 harg3 arg4 harg4 arg5 harg5 arg6 harg6 arg7 harg7 hc0 x0 x1 x2 x3 = k0_pay1 (F := Ideal) x0 x1 (row1 x2) (row0 x2) := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_unit_zero hz]
  simp only [View.readAt_eq_ld, harg2.read_unread, harg3.read_unread, harg4.read_unread, View.ld_unit_zero (S := S1024x2048) hz, View.ld_unit_zero (S := S1x2048) hz, shapeCast_self]
  rw [ld_row1, ld_row0]

theorem out_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x6x2048 .f32) (harg4 : arg4.IsWhole) (arg5 : Memref sig .tc .vmem S2048x512 .f32) (harg5 : arg5.IsWhole) (arg6 : Memref sig .tc .vmem S1024x512 .bf16) (harg6 : arg6.IsWhole) (arg7 : Memref sig .tc .vmem S1024x2048 .bf16) (harg7 : arg7.IsWhole) (hc0 : cond0_0 i)
    (x0 : Vec Ideal S1024x2048 .f32) (x1 : Vec Ideal S1x2048 .f32) (x2 : Vec Ideal S1x6x2048 .f32) (x3 : Vec Ideal S2048x512 .f32) :
    out0_A_4 c i arg2 harg2 arg3 harg3 arg4 harg4 arg5 harg5 arg6 harg6 arg7 harg7 hc0 x0 x1 x2 x3 = k0_pay2 (F := Ideal) (k0_pay1 (F := Ideal) x0 x1 (row1 x2) (row0 x2)) x3 := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero hz]
  rw [View.readCov_unit_zero (S := S1024x2048) _ hz]
  simp only [View.readAt_eq_ld, harg2.read_unread, harg3.read_unread, harg4.read_unread, harg5.read_unread, View.ld_unit_zero (S := S1024x2048) hz, View.ld_unit_zero (S := S2048x512) hz, View.ld_unit_zero (S := S1x2048) hz, shapeCast_self]
  rw [ld_row1, ld_row0]

end Cert.Kernel2Ideal.Proj
-- ==== Proof.ProjArray.lean ====
/-
  The projection's whole output array, index by index, as a function of its four arguments.
-/
module

public import proofs.«01_k».proof.Proof.ProjBlock
public import Idealize.ShloMosaic.Lib.Pipeline.ValueKit.Geometry

@[expose] public section

noncomputable section

open Idealize.ShloMosaic Idealize.ShloMosaic.TcCoe Idealize.SL.Sem
open Idealize.ShloMosaic.Pipeline (Dat)

namespace Cert.Kernel2Ideal.Proj

open Cert.Kernel2Ideal Cert.Kernel2Ideal.Gen Cert.Kernel2Ideal.Value Cert.Norm

/-- The weights' column behind an output column: the keys and values, columns 2048 to 2559 of the weights, come last. -/
def srcCol (n : Fin 14848) : Fin 14848 :=
  if n.val < 2048 then n else if h : n.val < 14336 then ⟨n.val + 512, by omega⟩ else ⟨n.val - 12288, by omega⟩

/-- Row `a`'s normalised and modulated entry `k`. -/
def rowAt (A : S8192x2048.Idx → EReal) (G : S1x2048.Idx → EReal) (M : S2x6x2048.Idx → EReal) (a : Fin 8192) (k : Fin 2048) : EReal :=
  normAt (fun l => A (ix2 a l)) (fun l => G (ix2 (0 : Fin 1) l)) (fun l => M (ix3 (⟨a.val / 4096, by omega⟩ : Fin 2) (1 : Fin 6) l))
    (fun l => M (ix3 (⟨a.val / 4096, by omega⟩ : Fin 2) (0 : Fin 6) l)) k

/-- The projection at a row and an output column. -/
def projAt (A : S8192x2048.Idx → EReal) (G : S1x2048.Idx → EReal) (M : S2x6x2048.Idx → EReal) (W : S2048x14848.Idx → EReal) (a : Fin 8192) (n : Fin 14848) : EReal :=
  ∑ k : Fin 2048, rowAt A G M a k * W (ix2 k (srcCol n))

/-- The whole output. -/
def projOut (A : S8192x2048.Idx → EReal) (G : S1x2048.Idx → EReal) (M : S2x6x2048.Idx → EReal) (W : S2048x14848.Idx → EReal) (j : S8192x14848.Idx) : EReal :=
  projAt A G M W ⟨(j 0).val, (j 0).isLt⟩ ⟨(j 1).val, (j 1).isLt⟩

/-- The output tile of a column step. -/
def outTile (j : Nat) : Nat := if j < 4 then j else if j = 4 then 28 else j - 1

theorem index0 : ∀ t : Fin grid0.N, win0_0.index t 0 = t.val / 29 ∧ win0_0.index t 1 = 0 := by decide +kernel
theorem index2 : ∀ t : Fin grid0.N, win0_2.index t 0 = t.val / 116 ∧ win0_2.index t 1 = 0 ∧ win0_2.index t 2 = 0 := by decide +kernel
theorem index3 : ∀ t : Fin grid0.N, win0_3.index t 0 = 0 ∧ win0_3.index t 1 = t.val % 29 := by decide +kernel
theorem index4 : ∀ t : Fin grid0.N, win0_4.index t 0 = t.val / 29 ∧ win0_4.index t 1 = outTile (t.val % 29) := by decide +kernel

variable (m : (ℓ : Loc nD τ sig) → Buf (Elt Ideal) ℓ)

/-- The row block at a point. -/
theorem iblk0 (c : Dev nD) (t : Fin cfg0.N) (r : Fin 1024) (k : Fin 2048) (a : Fin 8192) (ha : a.val = 1024 * (t.val / 29) + r.val) :
    (iblk m c 0 t : S1024x2048.Idx → EReal) (ix2 r k) = (m ((c : Thread nD τ).loc main_arg0) : S8192x2048.Idx → EReal) (ix2 a k) := by
  unfold iblk
  rw [View.read_apply]
  show V m c main_arg0 _ = m _ _
  unfold V
  congr 1; funext x; apply Fin.ext; match x with
  | ⟨0, _⟩ => show win0_0.index t 0 * 1024 + 1 * r.val = a.val; rw [(index0 t).1]; omega
  | ⟨1, _⟩ => show win0_0.index t 1 * 2048 + 1 * k.val = k.val; rw [(index0 t).2]; omega

/-- The gain. -/
theorem iblk1 (c : Dev nD) (t : Fin cfg0.N) (k : Fin 2048) :
    (iblk m c 1 t : S1x2048.Idx → EReal) (ix2 (0 : Fin 1) k) = (m ((c : Thread nD τ).loc main_arg1) : S1x2048.Idx → EReal) (ix2 (0 : Fin 1) k) := by
  unfold iblk
  rw [View.read_apply]
  show V m c main_arg1 _ = m _ _
  unfold V
  congr 1; funext x; apply Fin.ext; match x with
  | ⟨0, _⟩ => show 0 * 1 + 1 * 0 = 0; omega
  | ⟨1, _⟩ => show 0 * 2048 + 1 * k.val = k.val; omega

/-- The modulation block at a point. -/
theorem iblk2 (c : Dev nD) (t : Fin cfg0.N) (s : Fin 6) (k : Fin 2048) (b : Fin 2) (hb : b.val = t.val / 116) :
    (iblk m c 2 t : S1x6x2048.Idx → EReal) (ix3 (0 : Fin 1) s k) = (m ((c : Thread nD τ).loc main_arg2) : S2x6x2048.Idx → EReal) (ix3 b s k) := by
  unfold iblk
  rw [View.read_apply]
  show V m c main_arg2 _ = m _ _
  unfold V
  congr 1; funext x; apply Fin.ext; match x with
  | ⟨0, _⟩ => show win0_2.index t 0 * 1 + 1 * 0 = b.val; rw [(index2 t).1]; omega
  | ⟨1, _⟩ => show win0_2.index t 1 * 6 + 1 * s.val = s.val; rw [(index2 t).2.1]; omega
  | ⟨2, _⟩ => show win0_2.index t 2 * 2048 + 1 * k.val = k.val; rw [(index2 t).2.2]; omega

/-- The weights' block at a point. -/
theorem iblk3 (c : Dev nD) (t : Fin cfg0.N) (k : Fin 2048) (n : Fin 512) (b : Fin 14848) (hb : b.val = 512 * (t.val % 29) + n.val) :
    (iblk m c 3 t : S2048x512.Idx → EReal) (ix2 k n) = (m ((c : Thread nD τ).loc main_arg3) : S2048x14848.Idx → EReal) (ix2 k b) := by
  unfold iblk
  rw [View.read_apply]
  show V m c main_arg3 _ = m _ _
  unfold V
  congr 1; funext x; apply Fin.ext; match x with
  | ⟨0, _⟩ => show win0_3.index t 0 * 2048 + 1 * k.val = k.val; rw [(index3 t).1]; omega
  | ⟨1, _⟩ => show win0_3.index t 1 * 512 + 1 * n.val = b.val; rw [(index3 t).2]; omega

/-- The rows kept at the first point of a row block. -/
theorem first_apply (c : Dev nD) (t : Fin cfg0.N) (r : Fin 1024) (k : Fin 2048) (a : Fin 8192) (ha : a.val = 1024 * (t.val / 29) + r.val) :
    (k0_pay1 (F := Ideal) (iblk m c 0 t) (iblk m c 1 t) (row1 (iblk m c 2 t)) (row0 (iblk m c 2 t)) : S1024x2048.Idx → EReal) (ix2 r k)
      = rowAt (m ((c : Thread nD τ).loc main_arg0)) (m ((c : Thread nD τ).loc main_arg1)) (m ((c : Thread nD τ).loc main_arg2)) a k := by
  have hr : r.val < 1024 := r.isLt
  refine (pay1_apply _ _ _ _ r k).trans ?_
  unfold rowAt
  congr 1
  · funext l; exact iblk0 m c t r l a ha
  · funext l; exact iblk1 m c t l
  · funext l; exact iblk2 m c t 1 l ⟨a.val / 4096, by omega⟩ (by show a.val / 4096 = _; omega)
  · funext l; exact iblk2 m c t 0 l ⟨a.val / 4096, by omega⟩ (by show a.val / 4096 = _; omega)

/-- The rows kept after any point are its row block's. -/
theorem kept (c : Dev nD) : ∀ (n : ℕ) (h : n < cfg0.N) (r : Fin 1024) (k : Fin 2048) (a : Fin 8192) (ha : a.val = 1024 * (n / 29) + r.val),
    ((outsAt0 m c n h).2 : S1024x2048.Idx → EReal) (ix2 r k)
      = rowAt (m ((c : Thread nD τ).loc main_arg0)) (m ((c : Thread nD τ).loc main_arg1)) (m ((c : Thread nD τ).loc main_arg2)) a k := by
  intro n
  induction n with
  | zero =>
    intro h r k a ha
    rw [outsAt0_A m c ⟨0, h⟩ rfl]
    dsimp only
    rw [sout_A]
    exact first_apply m c ⟨0, h⟩ r k a ha
  | succ n ih =>
    intro h r k a ha
    by_cases h0 : (n + 1) % 29 = 0
    · rw [outsAt0_A m c ⟨n + 1, h⟩ h0]
      dsimp only
      rw [sout_A]
      exact first_apply m c ⟨n + 1, h⟩ r k a ha
    · rw [outsAt0_B m c ⟨n + 1, h⟩ h0]
      exact ih (Nat.lt_of_succ_lt h) r k a (by rw [ha]; congr 2; omega)

/-- A point's output block is the kept rows times its columns of the weights. -/
theorem out_eq (c : Dev nD) (t : Fin cfg0.N) :
    (outsAt0 m c t.val t.isLt).1 = k0_pay2 (F := Ideal) (outsAt0 m c t.val t.isLt).2 (iblk m c 3 t) := by
  by_cases h0 : t.val % 29 = 0
  · rw [outsAt0_A m c t h0]
    dsimp only
    rw [out_A, sout_A]
  · rw [outsAt0_B m c t h0]
    dsimp only
    rw [out_B]
    rfl

/-- An output array index under a block at a point. -/
theorem emb4 (t : Fin cfg0.N) (y : S1024x512.Idx) :
    ((((cfg0.win 4).blk t).view.emb y : S8192x14848.Idx) 0).val = 1024 * (t.val / 29) + (y 0).val ∧ ((((cfg0.win 4).blk t).view.emb y : S8192x14848.Idx) 1).val = 512 * outTile (t.val % 29) + (y 1).val := by
  constructor
  · show win0_4.index t 0 * 1024 + 1 * (y 0).val = _; rw [(index4 t).1]; omega
  · show win0_4.index t 1 * 512 + 1 * (y 1).val = _; rw [(index4 t).2]; omega

/-- A point's block is its part of the whole output. -/
theorem out_apply (c : Dev nD) (t : Fin cfg0.N) (y : S1024x512.Idx) (z : S8192x14848.Idx) (h0 : (z 0).val = 1024 * (t.val / 29) + (y 0).val) (h1 : (z 1).val = 512 * outTile (t.val % 29) + (y 1).val) :
    ((outsAt0 m c t.val t.isLt).1 : S1024x512.Idx → EReal) y
      = projOut (m ((c : Thread nD τ).loc main_arg0)) (m ((c : Thread nD τ).loc main_arg1)) (m ((c : Thread nD τ).loc main_arg2)) (m ((c : Thread nD τ).loc main_arg3)) z := by
  have hy : y = ix2 (y 0 : Fin 1024) (y 1 : Fin 512) := by funext a; match a with | ⟨0, _⟩ => rfl | ⟨1, _⟩ => rfl
  have hy1 : (y 1).val < 512 := (y 1).isLt
  have hz1 : (z 1).val < 14848 := (z 1).isLt
  rw [out_eq]
  refine (congrArg (k0_pay2 (F := Ideal) (outsAt0 m c t.val t.isLt).2 (iblk m c 3 t)) hy).trans ((pay2_apply _ _ (y 0) (y 1)).trans ?_)
  unfold projOut projAt
  refine Finset.sum_congr rfl fun k _ => ?_
  refine congrArg₂ (· * ·) (kept m c t.val t.isLt (y 0) k ⟨(z 0).val, (z 0).isLt⟩ h0) (iblk3 m c t k (y 1) _ ?_)
  unfold srcCol outTile at *
  dsimp only
  have hm : t.val % 29 < 29 := Nat.mod_lt _ (by decide)
  generalize t.val % 29 = j at *
  split_ifs at h1 ⊢ <;> dsimp only <;> omega

/-- The output's blocks tile it. -/
theorem covers4 : (cfg0.win 4).Covers := by decide +kernel

/-- The projection's output array. -/
theorem arr_eq (c : Dev nD) :
    ((dats m 0 c).arrAt 4 cfg0.N : S8192x14848.Idx → EReal)
      = projOut (m ((c : Thread nD τ).loc main_arg0)) (m ((c : Thread nD τ).loc main_arg1)) (m ((c : Thread nD τ).loc main_arg2)) (m ((c : Thread nD τ).loc main_arg3)) :=
  (dats m 0 c).arrAt_eq_of_covers 4 (projOut (m ((c : Thread nD τ).loc main_arg0)) (m ((c : Thread nD τ).loc main_arg1)) (m ((c : Thread nD τ).loc main_arg2)) (m ((c : Thread nD τ).loc main_arg3))) covers4 fun t hf y => by
    blk_simp
    rw [after0_4]
    exact out_apply m c t y _ (emb4 t y).1 (emb4 t y).2

end Cert.Kernel2Ideal.Proj
-- ==== Proof.ProjRef.lean ====
/-
  The reference projection, read at an index of its result.
-/
module

public import proofs.«01_k».proof.Proof.ProjArray
public import proofs.«01_k».proof.Proof.Gen.Reference2Ideal.Read
public import Idealize.ShloMosaic.Lib.IdealHost

@[expose] public section

noncomputable section

open Idealize.ShloMosaic Idealize.ShloMosaic.TcCoe Idealize.SL.Sem

namespace Cert.Reference2Ideal.Proj

open Cert.Reference2Ideal Cert.Reference2Ideal.Read
open Cert.Kernel2Ideal.Proj (srcCol rowAt projAt projOut)
open Cert.Norm (normAt)

variable (A : S8192x2048.Idx → EReal) (G : S1x2048.Idx → EReal) (M : S2x6x2048.Idx → EReal) (W : S2048x14848.Idx → EReal)

/-- The tokens, by batch and position. -/
theorem v0_apply (i : S2x4096x2048.Idx) (a : Fin 8192) (k : Fin 2048) (ha : a.val = 4096 * (i 0).val + (i 1).val) (hk : k.val = (i 2).val) :
    val_main_v0 (F := Ideal) A i = A (ix2 a k) := by
  have h1 : (i 1).val < 4096 := (i 1).isLt
  have h2 : (i 2).val < 2048 := (i 2).isLt
  rw [val_main_v0_apply]
  congr 1; funext x; apply Fin.ext; match x with
  | ⟨0, _⟩ => dsimp only [idx_main_v0]; show _ = a.val; omega
  | ⟨1, _⟩ => dsimp only [idx_main_v0]; show _ = k.val; omega

/-- The sum of a row's squares. -/
theorem v3_apply (i : S2x4096.Idx) (a : Fin 8192) (ha : a.val = 4096 * (i 0).val + (i 1).val) :
    val_main_v3 (F := Ideal) A i = ∑ l : Fin 2048, A (ix2 a l) * A (ix2 a l) := by
  rw [val_main_v3_apply]
  refine (congrArg (· + _) (show val_main_cst (F := Ideal) (Shape.Idx.first Gen.h_S_) = (0 : EReal) from Ideal.ofBits_zero .f32)).trans ((zero_add _).trans ?_)
  refine Finset.sum_congr rfl fun l _ => ?_
  rw [val_main_v2_apply, v0_apply A (idx_main_v3 i l) a l ha rfl]
  rfl

/-- The gain. -/
theorem v13_apply (i : S2x4096x2048.Idx) (k : Fin 2048) (hk : k.val = (i 2).val) :
    val_main_v13 (F := Ideal) G i = G (ix2 (0 : Fin 1) k) := by
  rw [val_main_v13_apply, val_main_v12_apply, val_main_v1_apply]
  have h2 : (i 2).val < 2048 := (i 2).isLt
  congr 1; funext x; apply Fin.ext; match x with
  | ⟨0, _⟩ => rfl
  | ⟨1, _⟩ => dsimp only [idx_main_v1, idx_main_v12, idx_main_v13]; show _ = k.val; omega

/-- One plus the scale. -/
theorem v22_apply (i : S2x4096x2048.Idx) (b : Fin 2) (k : Fin 2048) (hb : b.val = (i 0).val) (hk : k.val = (i 2).val) :
    val_main_v22 (F := Ideal) M i = 1 + M (ix3 b (1 : Fin 6) k) := by
  have h2 : (i 2).val < 2048 := (i 2).isLt
  rw [val_main_v22_apply, val_main_v21_apply, val_main_v20_apply, val_main_v19_apply, val_main_v18_apply, val_main_v17_apply]
  refine congrArg₂ (· + ·) Ideal.ofBits_one_f32 ?_
  congr 1; funext x; apply Fin.ext; match x with
  | ⟨0, _⟩ => dsimp only [idx_main_v17, idx_main_v18, idx_main_v19, idx_main_v22]; show _ = b.val; omega
  | ⟨1, _⟩ => rfl
  | ⟨2, _⟩ => dsimp only [idx_main_v17, idx_main_v18, idx_main_v19, idx_main_v22]; show _ = k.val; omega

/-- The shift. -/
theorem v25_apply (i : S2x4096x2048.Idx) (b : Fin 2) (k : Fin 2048) (hb : b.val = (i 0).val) (hk : k.val = (i 2).val) :
    val_main_v25 (F := Ideal) M i = M (ix3 b (0 : Fin 6) k) := by
  have h2 : (i 2).val < 2048 := (i 2).isLt
  rw [val_main_v25_apply, val_main_v24_apply, val_main_v16_apply, val_main_v15_apply]
  congr 1; funext x; apply Fin.ext; match x with
  | ⟨0, _⟩ => dsimp only [idx_main_v15, idx_main_v16, idx_main_v24, idx_main_v25]; show _ = b.val; omega
  | ⟨1, _⟩ => rfl
  | ⟨2, _⟩ => dsimp only [idx_main_v15, idx_main_v16, idx_main_v24, idx_main_v25]; show _ = k.val; omega

/-- The normalised and modulated rows. -/
theorem v26_apply (i : S2x4096x2048.Idx) (a : Fin 8192) (k : Fin 2048) (ha : a.val = 4096 * (i 0).val + (i 1).val) (hk : k.val = (i 2).val) :
    val_main_v26 (F := Ideal) A G M i = rowAt A G M a k := by
  have h0 : (i 0).val < 2 := (i 0).isLt
  have h1 : (i 1).val < 4096 := (i 1).isLt
  rw [val_main_v26_apply, val_main_v23_apply, val_main_v14_apply, val_main_v11_apply, val_main_v10_apply, val_main_v9_apply, val_main_v8_apply, val_main_v6_apply, val_main_v4_apply,
    v3_apply A _ a ha, v0_apply A i a k ha hk, v13_apply G i k hk, v22_apply M i ⟨a.val / 4096, by omega⟩ k (by show a.val / 4096 = _; omega) hk,
    v25_apply M i ⟨a.val / 4096, by omega⟩ k (by show a.val / 4096 = _; omega) hk]
  rfl

/-- The product. -/
theorem v27_apply (i : S2x4096x14848.Idx) (a : Fin 8192) (n : Fin 14848) (ha : a.val = 4096 * (i 0).val + (i 1).val) (hn : n.val = (i 2).val) :
    val_main_v27 (F := Ideal) A G M W i = ∑ k : Fin 2048, rowAt A G M a k * W (ix2 k n) := by
  rw [val_main_v27_apply]
  refine Finset.sum_congr rfl fun k _ => ?_
  rw [v26_apply A G M (lidx_main_v27 i k) a k ha rfl]
  congr 2; funext x; apply Fin.ext; match x with
  | ⟨0, _⟩ => rfl
  | ⟨1, _⟩ => exact hn.symm

/-- The product with its columns in the output's order. -/
theorem v31_apply (i : S2x4096x14848.Idx) (a : Fin 8192) (n : Fin 14848) (ha : a.val = 4096 * (i 0).val + (i 1).val) (hn : n.val = (i 2).val) :
    val_main_v31 (F := Ideal) A G M W i = projAt A G M W a n := by
  have h0 : (i 0).val < 2 := (i 0).isLt
  have h1 : (i 1).val < 4096 := (i 1).isLt
  have h2 : (i 2).val < 14848 := (i 2).isLt
  unfold val_main_v31 projAt srcCol
  by_cases c1 : n.val < 2048
  · rw [if_pos c1]
    refine (concatenate_apply_piece (t := S2x4096x14848) 2 _ _ i 0 (by show _ < 3; omega) S2x4096x2048 (val_main_v28 (F := Ideal) A G M W) rfl rfl 0 rfl
      (ix3 (⟨(i 0).val, h0⟩ : Fin 2) (⟨(i 1).val, h1⟩ : Fin 4096) (⟨(i 2).val, by omega⟩ : Fin 2048))
      (fun b hb => match b, hb with | ⟨0, _⟩, _ => rfl | ⟨1, _⟩, _ => rfl | ⟨2, _⟩, hb => (hb rfl).elim) (Nat.zero_add _)).trans ?_
    rw [val_main_v28_apply]
    exact v27_apply A G M W _ a n ha hn
  · rw [if_neg c1]
    by_cases c2 : n.val < 14336
    · rw [dif_pos c2]
      refine (concatenate_apply_piece (t := S2x4096x14848) 2 _ _ i 1 (by show _ < 3; omega) S2x4096x12288 (val_main_v29 (F := Ideal) A G M W) rfl rfl 2048 rfl
        (ix3 (⟨(i 0).val, h0⟩ : Fin 2) (⟨(i 1).val, h1⟩ : Fin 4096) (⟨(i 2).val - 2048, by omega⟩ : Fin 12288))
        (fun b hb => match b, hb with | ⟨0, _⟩, _ => rfl | ⟨1, _⟩, _ => rfl | ⟨2, _⟩, hb => (hb rfl).elim) (by show 2048 + ((i 2).val - 2048) = (i 2).val; omega)).trans ?_
      rw [val_main_v29_apply]
      exact v27_apply A G M W _ a _ ha (by show n.val + 512 = 2560 + ((i 2).val - 2048); omega)
    · rw [dif_neg c2]
      refine (concatenate_apply_piece (t := S2x4096x14848) 2 _ _ i 2 (by show _ < 3; omega) S2x4096x512 (val_main_v30 (F := Ideal) A G M W) rfl rfl 14336 rfl
        (ix3 (⟨(i 0).val, h0⟩ : Fin 2) (⟨(i 1).val, h1⟩ : Fin 4096) (⟨(i 2).val - 14336, by omega⟩ : Fin 512))
        (fun b hb => match b, hb with | ⟨0, _⟩, _ => rfl | ⟨1, _⟩, _ => rfl | ⟨2, _⟩, hb => (hb rfl).elim) (by show 14336 + ((i 2).val - 14336) = (i 2).val; omega)).trans ?_
      rw [val_main_v30_apply]
      exact v27_apply A G M W _ a _ ha (by show n.val - 12288 = 2048 + ((i 2).val - 14336); omega)

/-- The reference's result is the projection. -/
theorem v33_eq : (val_main_v33 (F := Ideal) A G M W : S8192x14848.Idx → EReal) = projOut A G M W := by
  funext j
  have h0 : (j 0).val < 8192 := (j 0).isLt
  have h1 : (j 1).val < 14848 := (j 1).isLt
  rw [val_main_v33_apply, val_main_v32_apply]
  exact v31_apply A G M W (idx_main_v32 j) ⟨(j 0).val, h0⟩ ⟨(j 1).val, h1⟩
    (by dsimp only [idx_main_v32]; omega) (by dsimp only [idx_main_v32]; omega)

end Cert.Reference2Ideal.Proj
-- ==== Proof.ProjClaim.lean ====
/-
  The projection's value claim, put together.
-/
module

public import proofs.«01_k».proof.Defs
public import proofs.«01_k».proof.Proof.ProjRef
public import proofs.«01_k».proof.Proof.Gen.Reference2Ideal.Run

@[expose] public section

noncomputable section

open Idealize.ShloMosaic Idealize.ShloMosaic.TcCoe Idealize.SL.Sem

namespace Cert.Proof.Proj

/-- The reference runs, keeps its arguments, and has no semaphore to leave nonzero. -/
theorem frame_r : Cert.quiescent_Reference2Ideal (hReference2Ideal := Cert.Reference2Ideal.Gen.facts) :=
  fun m ρ _ => (θ_run _ _ _).mono (fun r h => ⟨fun c => (h c).2, sem_eq_zero_of_no_sems (by decide) r.2⟩) (Cert.Reference2Ideal.Value.run (F := Ideal) m ρ)

/-- The projection kernel computes the reference projection. -/
theorem algebraic : Cert.algebraic_Kernel2Ideal_Reference2Ideal (hKernel2Ideal := Cert.Kernel2Ideal.Gen.facts)
    (hReference2Ideal := Cert.Reference2Ideal.Gen.facts) := by
  intro m g m' g' hpre hagree
  have hv : ∀ c : Dev Cert.Kernel2Ideal.nD, Cert.Reference2Ideal.Value.res_main_v33 m' c
      = ((Cert.Kernel2Ideal.Gen.dats m 0 c).arrAt 4 Cert.Kernel2Ideal.cfg0.N : Cert.Kernel2Ideal.S8192x14848.Idx → EReal) := by
    intro c
    obtain ⟨a0, a1, a2, a3⟩ := hagree c
    rw [Cert.Reference2Ideal.Read.val_main_v33_eq m' c, a0, a1, a2, a3, Cert.Kernel2Ideal.Proj.arr_eq]
    exact Cert.Reference2Ideal.Proj.v33_eq _ _ _ _
  refine ⟨fun c => (Cert.Kernel2Ideal.Gen.dats m 0 c).arrAt 4 Cert.Kernel2Ideal.cfg0.N, Cert.Kernel2Ideal.Value.run_blocks m g, ?_⟩
  refine (θ_run _ _ _).mono (fun r h c => ⟨(h c).1.trans (hv c), (h c).2⟩) (Cert.Reference2Ideal.Value.run m' g')

end Cert.Proof.Proj
-- ==== Proof.MergeBlock.lean ====
/-
  What one grid point of the merge leaves in its two first output blocks: the residual rows, and those rows normalised
  and modulated.
-/
module

public import proofs.«01_k».proof.Proof.Gen.Kernel3Ideal.Value
public import proofs.«01_k».proof.Proof.Norm
public import Idealize.ShloMosaic.Lib.Pointwise

@[expose] public section

noncomputable section

open Idealize.ShloMosaic Idealize.ShloMosaic.TcCoe Idealize.SL.Sem

namespace Cert.Kernel3Ideal.Merge

open Cert.Kernel3Ideal Cert.Kernel3Ideal.Gen Cert.Norm

theorem hz : (![0, 0] : Fin 2 → Nat) = fun _ => 0 := funext fun a => by fin_cases a <;> rfl

/-- A row of the modulation block. -/
def row (s : Fin 6) (x : Vec Ideal S1x6x2048 .f32) : Vec Ideal S1x1x2048 .f32 := fun j => x (ix3 (0 : Fin 1) s (⟨(j 2).val, (j 2).isLt⟩ : Fin 2048))

/-- The load of row 2. -/
theorem ld_row2 (x : Vec Ideal S1x6x2048 .f32) :
    View.ld x (Rect.unit (s := S1x6x2048) ![0, 2, 0] ![1, 1, 2048] inb_S1x6x2048_S1x1x2048_0_2_0) = row 2 x := by
  funext j
  unfold row
  show x _ = x _
  have h0 : (j 0).val < 1 := (j 0).isLt
  have h1 : (j 1).val < 1 := (j 1).isLt
  congr 1; funext a; apply Fin.ext; match a with
  | ⟨0, _⟩ => show 0 + 1 * (j 0).val = 0; omega
  | ⟨1, _⟩ => show 2 + 1 * (j 1).val = 2; omega
  | ⟨2, _⟩ => show 0 + 1 * (j 2).val = (j 2).val; omega

/-- The load of row 3. -/
theorem ld_row3 (x : Vec Ideal S1x6x2048 .f32) :
    View.ld x (Rect.unit (s := S1x6x2048) ![0, 3, 0] ![1, 1, 2048] inb_S1x6x2048_S1x1x2048_0_3_0) = row 3 x := by
  funext j
  unfold row
  show x _ = x _
  have h0 : (j 0).val < 1 := (j 0).isLt
  have h1 : (j 1).val < 1 := (j 1).isLt
  congr 1; funext a; apply Fin.ext; match a with
  | ⟨0, _⟩ => show 0 + 1 * (j 0).val = 0; omega
  | ⟨1, _⟩ => show 3 + 1 * (j 1).val = 3; omega
  | ⟨2, _⟩ => show 0 + 1 * (j 2).val = (j 2).val; omega

/-- The load of row 4. -/
theorem ld_row4 (x : Vec Ideal S1x6x2048 .f32) :
    View.ld x (Rect.unit (s := S1x6x2048) ![0, 4, 0] ![1, 1, 2048] inb_S1x6x2048_S1x1x2048_0_4_0) = row 4 x := by
  funext j
  unfold row
  show x _ = x _
  have h0 : (j 0).val < 1 := (j 0).isLt
  have h1 : (j 1).val < 1 := (j 1).isLt
  congr 1; funext a; apply Fin.ext; match a with
  | ⟨0, _⟩ => show 0 + 1 * (j 0).val = 0; omega
  | ⟨1, _⟩ => show 4 + 1 * (j 1).val = 4; omega
  | ⟨2, _⟩ => show 0 + 1 * (j 2).val = (j 2).val; omega

/-- One entry of a residual row: the input, plus the gate times the two gated products mixed by the output weights. -/
def resid (at_ rt ga gr : Fin 2048 → EReal) (wa wr wo : Fin 2048 → Fin 2048 → EReal) (x g : Fin 2048 → EReal) (k : Fin 2048) : EReal :=
  x k + g k * ∑ n : Fin 2048, (Ideal.logistic (ga n) * (∑ d : Fin 2048, at_ d * wa d n) + Ideal.logistic (gr n) * (∑ d : Fin 2048, rt d * wr d n)) * wo n k

/-- The residual rows, at an index. -/
theorem pay2_apply (v0 : Vec Ideal S256x2048 .bf16) (v1 : Vec Ideal S2048x2048 .bf16) (v3 : Vec Ideal S256x2048 .bf16) (v4 : Vec Ideal S2048x2048 .bf16) (v6 v10 : Vec Ideal S256x2048 .bf16) (v16 : Vec Ideal S2048x2048 .bf16) (v18 : Vec Ideal S256x2048 .f32) (v19 : Vec Ideal S1x1x2048 .f32) (r : Fin 256) (k : Fin 2048) :
    (k0_pay2 (F := Ideal) v0 v1 v3 v4 v6 v10 v16 v18 v19 : S256x2048.Idx → EReal) (ix2 r k)
      = resid (fun d => v0 (ix2 r d)) (fun d => v3 (ix2 r d)) (fun n => v6 (ix2 r n)) (fun n => v10 (ix2 r n)) (fun d n => v1 (ix2 d n)) (fun d n => v4 (ix2 d n)) (fun n k => v16 (ix2 n k))
        (fun k => v18 (ix2 r k)) (fun k => v19 (ix3 (0 : Fin 1) (0 : Fin 1) k)) k := by
  unfold k0_pay2 resid
  pointwise

/-- The modulated rows over any rows whose mean squares are given, at an index. -/
theorem pay5_apply (v23 : FVec Ideal S256x2048 .f32) (v29 v30 : FVec Ideal S256x1 .f32) (v35 : Vec Ideal S1x2048 .f32) (v38 v44 : Vec Ideal S1x1x2048 .f32) (r : Fin 256) (k : Fin 2048) :
    (k0_pay5 (F := Ideal) v23 v29 v30 v35 v38 v44 : S256x2048.Idx → EReal) (ix2 r k)
      = v23 (ix2 r k) * Ideal.rsqrt (v29 (ix2 r (0 : Fin 1)) + v30 (ix2 r (0 : Fin 1))) * v35 (ix2 (0 : Fin 1) k) * (1 + v38 (ix3 (0 : Fin 1) (0 : Fin 1) k)) + v44 (ix3 (0 : Fin 1) (0 : Fin 1) k) := by
  unfold k0_pay5
  pointwise

/-- The mean squares, at an index. -/
theorem pay3_apply (v0 : Vec Ideal S256x2048 .bf16) (v1 : Vec Ideal S2048x2048 .bf16) (v3 : Vec Ideal S256x2048 .bf16) (v4 : Vec Ideal S2048x2048 .bf16) (v6 v10 : Vec Ideal S256x2048 .bf16) (v16 : Vec Ideal S2048x2048 .bf16) (v18 : Vec Ideal S256x2048 .f32) (v19 : Vec Ideal S1x1x2048 .f32) (r : Fin 256) :
    (k0_pay3 (F := Ideal) v0 v1 v3 v4 v6 v10 v16 v18 v19 : S256x1.Idx → EReal) (ix2 r (0 : Fin 1))
      = Ideal.div (∑ l : Fin 2048, (k0_pay2 (F := Ideal) v0 v1 v3 v4 v6 v10 v16 v18 v19 : S256x2048.Idx → EReal) (ix2 r l) * (k0_pay2 (F := Ideal) v0 v1 v3 v4 v6 v10 v16 v18 v19 : S256x2048.Idx → EReal) (ix2 r l)) (Ideal.ofBits .f32 0x45000000#32) := by
  unfold k0_pay3
  generalize k0_pay2 (F := Ideal) v0 v1 v3 v4 v6 v10 v16 v18 v19 = z
  pointwise

/-- The small constant, at an index. -/
theorem pay4_apply (r : Fin 256) : (k0_pay4 (F := Ideal) : S256x1.Idx → EReal) (ix2 r (0 : Fin 1)) = Ideal.ofBits .f32 0x358637BD#32 := rfl

theorem out_12 (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .f32) (harg5 : arg5.IsWhole) (arg6 : Memref sig .tc .vmem S1x6x2048 .f32) (harg6 : arg6.IsWhole) (arg7 : Memref sig .tc .vmem S1x2048 .f32) (harg7 : arg7.IsWhole) (arg8 : Memref sig .tc .vmem S2048x2048 .bf16) (harg8 : arg8.IsWhole) (arg9 : Memref sig .tc .vmem S2048x2048 .bf16) (harg9 : arg9.IsWhole) (arg10 : Memref sig .tc .vmem S2048x2048 .bf16) (harg10 : arg10.IsWhole) (arg11 : Memref sig .tc .vmem S2048x128 .f32) (harg11 : arg11.IsWhole) (arg12 : Memref sig .tc .vmem S1x128 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S256x128 .f32) (harg15 : arg15.IsWhole)
    (x0 : Vec Ideal S256x2048 .bf16) (x1 : Vec Ideal S256x2048 .bf16) (x2 : Vec Ideal S256x2048 .bf16) (x3 : Vec Ideal S256x2048 .bf16) (x4 : Vec Ideal S256x2048 .f32) (x5 : Vec Ideal S1x6x2048 .f32) (x6 : Vec Ideal S1x2048 .f32) (x7 : Vec Ideal S2048x2048 .bf16) (x8 : Vec Ideal S2048x2048 .bf16) (x9 : Vec Ideal S2048x2048 .bf16) (x10 : Vec Ideal S2048x128 .f32) (x11 : Vec Ideal S1x128 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11
      = k0_pay2 (F := Ideal) x0 x7 x1 x8 x2 x3 x9 x4 (row 2 x5) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S256x2048) hz, View.ld_unit_zero (S := S2048x2048) hz, View.ld_unit_zero (S := S1x2048) hz, shapeCast_self]
  rw [ld_row2]

theorem out_13 (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .f32) (harg5 : arg5.IsWhole) (arg6 : Memref sig .tc .vmem S1x6x2048 .f32) (harg6 : arg6.IsWhole) (arg7 : Memref sig .tc .vmem S1x2048 .f32) (harg7 : arg7.IsWhole) (arg8 : Memref sig .tc .vmem S2048x2048 .bf16) (harg8 : arg8.IsWhole) (arg9 : Memref sig .tc .vmem S2048x2048 .bf16) (harg9 : arg9.IsWhole) (arg10 : Memref sig .tc .vmem S2048x2048 .bf16) (harg10 : arg10.IsWhole) (arg11 : Memref sig .tc .vmem S2048x128 .f32) (harg11 : arg11.IsWhole) (arg12 : Memref sig .tc .vmem S1x128 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S256x128 .f32) (harg15 : arg15.IsWhole)
    (x0 : Vec Ideal S256x2048 .bf16) (x1 : Vec Ideal S256x2048 .bf16) (x2 : Vec Ideal S256x2048 .bf16) (x3 : Vec Ideal S256x2048 .bf16) (x4 : Vec Ideal S256x2048 .f32) (x5 : Vec Ideal S1x6x2048 .f32) (x6 : Vec Ideal S1x2048 .f32) (x7 : Vec Ideal S2048x2048 .bf16) (x8 : Vec Ideal S2048x2048 .bf16) (x9 : Vec Ideal S2048x2048 .bf16) (x10 : Vec Ideal S2048x128 .f32) (x11 : Vec Ideal S1x128 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11
      = k0_pay5 (F := Ideal) (k0_pay2 (F := Ideal) x0 x7 x1 x8 x2 x3 x9 x4 (row 2 x5)) (k0_pay3 (F := Ideal) x0 x7 x1 x8 x2 x3 x9 x4 (row 2 x5)) (k0_pay4 (F := Ideal)) x6 (row 4 x5) (row 3 x5) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S256x2048) hz, View.ld_unit_zero (S := S2048x2048) hz, View.ld_unit_zero (S := S1x2048) hz, shapeCast_self]
  rw [ld_row2, ld_row3, ld_row4]

end Cert.Kernel3Ideal.Merge
-- ==== Proof.MergeArray.lean ====
/-
  The merge's two first output arrays, index by index, as functions of its arguments.
-/
module

public import proofs.«01_k».proof.Proof.MergeBlock
public import Idealize.ShloMosaic.Lib.Pipeline.ValueKit.Geometry

@[expose] public section

noncomputable section

open Idealize.ShloMosaic Idealize.ShloMosaic.TcCoe Idealize.SL.Sem
open Idealize.ShloMosaic.Pipeline (Dat)

namespace Cert.Kernel3Ideal.Merge

open Cert.Kernel3Ideal Cert.Kernel3Ideal.Gen Cert.Kernel3Ideal.Value Cert.Norm

/-- Row `a`'s residual entry `k`. -/
def x1At (A R : S8192x2048.Idx → EReal) (P : S8192x14848.Idx → EReal) (X : S8192x2048.Idx → EReal) (M : S2x6x2048.Idx → EReal) (WA WR WO : S2048x2048.Idx → EReal) (a : Fin 8192) (k : Fin 2048) : EReal :=
  resid (fun d => A (ix2 a d)) (fun d => R (ix2 a d)) (fun n => P (ix2 a (⟨10240 + n.val, by omega⟩ : Fin 14848))) (fun n => P (ix2 a (⟨12288 + n.val, by omega⟩ : Fin 14848)))
    (fun d n => WA (ix2 d n)) (fun d n => WR (ix2 d n)) (fun n k => WO (ix2 n k)) (fun k => X (ix2 a k)) (fun k => M (ix3 (⟨a.val / 4096, by omega⟩ : Fin 2) (2 : Fin 6) k)) k

/-- Row `a`'s modulated entry `k`. -/
def h2At (A R : S8192x2048.Idx → EReal) (P : S8192x14848.Idx → EReal) (X : S8192x2048.Idx → EReal) (M : S2x6x2048.Idx → EReal) (G : S1x2048.Idx → EReal) (WA WR WO : S2048x2048.Idx → EReal) (a : Fin 8192) (k : Fin 2048) : EReal :=
  normAt (fun l => x1At A R P X M WA WR WO a l) (fun l => G (ix2 (0 : Fin 1) l)) (fun l => M (ix3 (⟨a.val / 4096, by omega⟩ : Fin 2) (4 : Fin 6) l)) (fun l => M (ix3 (⟨a.val / 4096, by omega⟩ : Fin 2) (3 : Fin 6) l)) k

/-- The whole residual. -/
def x1Out (A R : S8192x2048.Idx → EReal) (P : S8192x14848.Idx → EReal) (X : S8192x2048.Idx → EReal) (M : S2x6x2048.Idx → EReal) (WA WR WO : S2048x2048.Idx → EReal) (j : S8192x2048.Idx) : EReal :=
  x1At A R P X M WA WR WO ⟨(j 0).val, (j 0).isLt⟩ ⟨(j 1).val, (j 1).isLt⟩

/-- The whole modulated array. -/
def h2Out (A R : S8192x2048.Idx → EReal) (P : S8192x14848.Idx → EReal) (X : S8192x2048.Idx → EReal) (M : S2x6x2048.Idx → EReal) (G : S1x2048.Idx → EReal) (WA WR WO : S2048x2048.Idx → EReal) (j : S8192x2048.Idx) : EReal :=
  h2At A R P X M G WA WR WO ⟨(j 0).val, (j 0).isLt⟩ ⟨(j 1).val, (j 1).isLt⟩

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index4 : ∀ t : Fin grid0.N, win0_4.index t 0 = t.val ∧ win0_4.index t 1 = 0 := by decide +kernel
theorem index12 : ∀ t : Fin grid0.N, win0_12.index t 0 = t.val ∧ win0_12.index t 1 = 0 := by decide +kernel
theorem index13 : ∀ t : Fin grid0.N, win0_13.index t 0 = t.val ∧ win0_13.index t 1 = 0 := by decide +kernel
theorem index2 : ∀ t : Fin grid0.N, win0_2.index t 0 = t.val ∧ win0_2.index t 1 = 5 := by decide +kernel
theorem index3 : ∀ t : Fin grid0.N, win0_3.index t 0 = t.val ∧ win0_3.index t 1 = 6 := by decide +kernel
theorem index5 : ∀ t : Fin grid0.N, win0_5.index t 0 = t.val / 16 ∧ win0_5.index t 1 = 0 ∧ win0_5.index t 2 = 0 := by decide +kernel

variable (m : (ℓ : Loc nD τ sig) → Buf (Elt Ideal) ℓ)

/-- The attended rows at a point. -/
theorem iblk0 (c : Dev nD) (t : Fin cfg0.N) (r : Fin 256) (k : Fin 2048) (a : Fin 8192) (ha : a.val = 256 * t.val + r.val) :
    (iblk m c 0 t : S256x2048.Idx → EReal) (ix2 r k) = (m ((c : Thread nD τ).loc main_arg0) : S8192x2048.Idx → EReal) (ix2 a k) := by
  unfold iblk
  rw [View.read_apply]
  show V m c main_arg0 _ = m _ _
  unfold V
  congr 1; funext x; apply Fin.ext; match x with
  | ⟨0, _⟩ => show win0_0.index t 0 * 256 + 1 * r.val = a.val; rw [(index0 t).1]; omega
  | ⟨1, _⟩ => show win0_0.index t 1 * 2048 + 1 * k.val = k.val; rw [(index0 t).2]; omega

/-- The retained rows at a point. -/
theorem iblk1 (c : Dev nD) (t : Fin cfg0.N) (r : Fin 256) (k : Fin 2048) (a : Fin 8192) (ha : a.val = 256 * t.val + r.val) :
    (iblk m c 1 t : S256x2048.Idx → EReal) (ix2 r k) = (m ((c : Thread nD τ).loc main_arg1) : S8192x2048.Idx → EReal) (ix2 a k) := by
  unfold iblk
  rw [View.read_apply]
  show V m c main_arg1 _ = m _ _
  unfold V
  congr 1; funext x; apply Fin.ext; match x with
  | ⟨0, _⟩ => show win0_1.index t 0 * 256 + 1 * r.val = a.val; rw [(index1 t).1]; omega
  | ⟨1, _⟩ => show win0_1.index t 1 * 2048 + 1 * k.val = k.val; rw [(index1 t).2]; omega

/-- The input rows at a point. -/
theorem iblk4 (c : Dev nD) (t : Fin cfg0.N) (r : Fin 256) (k : Fin 2048) (a : Fin 8192) (ha : a.val = 256 * t.val + r.val) :
    (iblk m c 4 t : S256x2048.Idx → EReal) (ix2 r k) = (m ((c : Thread nD τ).loc main_arg3) : S8192x2048.Idx → EReal) (ix2 a k) := by
  unfold iblk
  rw [View.read_apply]
  show V m c main_arg3 _ = m _ _
  unfold V
  congr 1; funext x; apply Fin.ext; match x with
  | ⟨0, _⟩ => show win0_4.index t 0 * 256 + 1 * r.val = a.val; rw [(index4 t).1]; omega
  | ⟨1, _⟩ => show win0_4.index t 1 * 2048 + 1 * k.val = k.val; rw [(index4 t).2]; omega

/-- The first gate's columns at a point. -/
theorem gate2 (c : Dev nD) (t : Fin cfg0.N) (r : Fin 256) (k : Fin 2048) (a : Fin 8192) (ha : a.val = 256 * t.val + r.val) :
    (X0_2 m c t : S256x2048.Idx → EReal) (ix2 r k) = (m ((c : Thread nD τ).loc main_arg2) : S8192x14848.Idx → EReal) (ix2 a (⟨10240 + k.val, by omega⟩ : Fin 14848)) := by
  unfold X0_2 Pipeline.Window.fill
  rw [dif_pos (moved0_2 t _)]
  unfold iblk
  rw [View.read_apply]
  show V m c main_arg2 _ = m _ _
  unfold V
  congr 1; funext x; apply Fin.ext; match x with
  | ⟨0, _⟩ => show win0_2.index t 0 * 256 + 1 * r.val = a.val; rw [(index2 t).1]; omega
  | ⟨1, _⟩ => show win0_2.index t 1 * 2048 + 1 * k.val = 10240 + k.val; rw [(index2 t).2]; omega

/-- The second gate's columns at a point. -/
theorem gate3 (c : Dev nD) (t : Fin cfg0.N) (r : Fin 256) (k : Fin 2048) (a : Fin 8192) (ha : a.val = 256 * t.val + r.val) :
    (X0_3 m c t : S256x2048.Idx → EReal) (ix2 r k) = (m ((c : Thread nD τ).loc main_arg2) : S8192x14848.Idx → EReal) (ix2 a (⟨12288 + k.val, by omega⟩ : Fin 14848)) := by
  unfold X0_3 Pipeline.Window.fill
  rw [dif_pos (moved0_3 t _)]
  unfold iblk
  rw [View.read_apply]
  show V m c main_arg2 _ = m _ _
  unfold V
  congr 1; funext x; apply Fin.ext; match x with
  | ⟨0, _⟩ => show win0_3.index t 0 * 256 + 1 * r.val = a.val; rw [(index3 t).1]; omega
  | ⟨1, _⟩ => show win0_3.index t 1 * 2048 + 1 * k.val = 12288 + k.val; rw [(index3 t).2]; omega

/-- The modulation block at a point. -/
theorem iblk5 (c : Dev nD) (t : Fin cfg0.N) (s : Fin 6) (k : Fin 2048) (b : Fin 2) (hb : b.val = t.val / 16) :
    (iblk m c 5 t : S1x6x2048.Idx → EReal) (ix3 (0 : Fin 1) s k) = (m ((c : Thread nD τ).loc main_arg4) : S2x6x2048.Idx → EReal) (ix3 b s k) := by
  unfold iblk
  rw [View.read_apply]
  show V m c main_arg4 _ = m _ _
  unfold V
  congr 1; funext x; apply Fin.ext; match x with
  | ⟨0, _⟩ => show win0_5.index t 0 * 1 + 1 * 0 = b.val; rw [(index5 t).1]; omega
  | ⟨1, _⟩ => show win0_5.index t 1 * 6 + 1 * s.val = s.val; rw [(index5 t).2.1]; omega
  | ⟨2, _⟩ => show win0_5.index t 2 * 2048 + 1 * k.val = k.val; rw [(index5 t).2.2]; omega

/-- The gain. -/
theorem iblk6 (c : Dev nD) (t : Fin cfg0.N) (k : Fin 2048) :
    (iblk m c 6 t : S1x2048.Idx → EReal) (ix2 (0 : Fin 1) k) = (m ((c : Thread nD τ).loc main_arg5) : S1x2048.Idx → EReal) (ix2 (0 : Fin 1) k) := by
  unfold iblk
  rw [View.read_apply]
  show V m c main_arg5 _ = m _ _
  unfold V
  congr 1; funext x; apply Fin.ext; match x with
  | ⟨0, _⟩ => show 0 * 1 + 1 * 0 = 0; omega
  | ⟨1, _⟩ => show 0 * 2048 + 1 * k.val = k.val; omega

/-- The attention's weights. -/
theorem iblk7 (c : Dev nD) (t : Fin cfg0.N) (d k : Fin 2048) :
    (iblk m c 7 t : S2048x2048.Idx → EReal) (ix2 d k) = (m ((c : Thread nD τ).loc main_arg6) : S2048x2048.Idx → EReal) (ix2 d k) := by
  unfold iblk
  rw [View.read_apply]
  show V m c main_arg6 _ = m _ _
  unfold V
  congr 1; funext x; apply Fin.ext; match x with
  | ⟨0, _⟩ => show 0 * 2048 + 1 * d.val = d.val; omega
  | ⟨1, _⟩ => show 0 * 2048 + 1 * k.val = k.val; omega

/-- The retention's weights. -/
theorem iblk8 (c : Dev nD) (t : Fin cfg0.N) (d k : Fin 2048) :
    (iblk m c 8 t : S2048x2048.Idx → EReal) (ix2 d k) = (m ((c : Thread nD τ).loc main_arg7) : S2048x2048.Idx → EReal) (ix2 d k) := by
  unfold iblk
  rw [View.read_apply]
  show V m c main_arg7 _ = m _ _
  unfold V
  congr 1; funext x; apply Fin.ext; match x with
  | ⟨0, _⟩ => show 0 * 2048 + 1 * d.val = d.val; omega
  | ⟨1, _⟩ => show 0 * 2048 + 1 * k.val = k.val; omega

/-- The output weights. -/
theorem iblk9 (c : Dev nD) (t : Fin cfg0.N) (d k : Fin 2048) :
    (iblk m c 9 t : S2048x2048.Idx → EReal) (ix2 d k) = (m ((c : Thread nD τ).loc main_arg8) : S2048x2048.Idx → EReal) (ix2 d k) := by
  unfold iblk
  rw [View.read_apply]
  show V m c main_arg8 _ = m _ _
  unfold V
  congr 1; funext x; apply Fin.ext; match x with
  | ⟨0, _⟩ => show 0 * 2048 + 1 * d.val = d.val; omega
  | ⟨1, _⟩ => show 0 * 2048 + 1 * k.val = k.val; omega

/-- A point's residual block. -/
theorem x1_apply (c : Dev nD) (t : Fin cfg0.N) (r : Fin 256) (k : Fin 2048) (a : Fin 8192) (ha : a.val = 256 * t.val + r.val) :
    (k0_pay2 (F := Ideal) (iblk m c 0 t) (iblk m c 7 t) (iblk m c 1 t) (iblk m c 8 t) (X0_2 m c t) (X0_3 m c t) (iblk m c 9 t) (iblk m c 4 t) (row 2 (iblk m c 5 t)) : S256x2048.Idx → EReal) (ix2 r k)
      = x1At (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) a k := by
  have hr : r.val < 256 := r.isLt
  refine (pay2_apply _ _ _ _ _ _ _ _ _ r k).trans ?_
  unfold x1At
  congr 1
  · funext d; exact iblk0 m c t r d a ha
  · funext d; exact iblk1 m c t r d a ha
  · funext d; exact gate2 m c t r d a ha
  · funext d; exact gate3 m c t r d a ha
  · funext d n; exact iblk7 m c t d n
  · funext d n; exact iblk8 m c t d n
  · funext d n; exact iblk9 m c t d n
  · funext d; exact iblk4 m c t r d a ha
  · funext d; exact iblk5 m c t 2 d ⟨a.val / 4096, by omega⟩ (by show a.val / 4096 = _; omega)

/-- A point's modulated block. -/
theorem h2_apply (c : Dev nD) (t : Fin cfg0.N) (r : Fin 256) (k : Fin 2048) (a : Fin 8192) (ha : a.val = 256 * t.val + r.val) :
    (k0_pay5 (F := Ideal) (k0_pay2 (F := Ideal) (iblk m c 0 t) (iblk m c 7 t) (iblk m c 1 t) (iblk m c 8 t) (X0_2 m c t) (X0_3 m c t) (iblk m c 9 t) (iblk m c 4 t) (row 2 (iblk m c 5 t))) (k0_pay3 (F := Ideal) (iblk m c 0 t) (iblk m c 7 t) (iblk m c 1 t) (iblk m c 8 t) (X0_2 m c t) (X0_3 m c t) (iblk m c 9 t) (iblk m c 4 t) (row 2 (iblk m c 5 t))) (k0_pay4 (F := Ideal)) (iblk m c 6 t) (row 4 (iblk m c 5 t)) (row 3 (iblk m c 5 t)) : S256x2048.Idx → EReal) (ix2 r k)
      = h2At (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) a k := by
  have hr : r.val < 256 := r.isLt
  refine (pay5_apply _ _ _ _ _ _ r k).trans ?_
  rw [pay3_apply, pay4_apply]
  simp only [x1_apply m c t r _ a ha]
  unfold h2At normAt
  refine congrArg₂ (· + ·) (congrArg₂ (· * ·) (congrArg₂ (· * ·) rfl (iblk6 m c t k)) (congrArg (1 + ·) ?_)) ?_
  · exact iblk5 m c t 4 k ⟨a.val / 4096, by omega⟩ (by show a.val / 4096 = _; omega)
  · exact iblk5 m c t 3 k ⟨a.val / 4096, by omega⟩ (by show a.val / 4096 = _; omega)

/-- An output array index under a block at a point. -/
theorem emb12 (t : Fin cfg0.N) (y : S256x2048.Idx) :
    ((((cfg0.win 12).blk t).view.emb y : S8192x2048.Idx) 0).val = 256 * t.val + (y 0).val ∧ ((((cfg0.win 12).blk t).view.emb y : S8192x2048.Idx) 1).val = (y 1).val := by
  constructor
  · show win0_12.index t 0 * 256 + 1 * (y 0).val = _; rw [(index12 t).1]; omega
  · show win0_12.index t 1 * 2048 + 1 * (y 1).val = _; rw [(index12 t).2]; omega

/-- A point's block is its part of the whole output. -/
theorem out12_apply (c : Dev nD) (t : Fin cfg0.N) (y : S256x2048.Idx) (z : S8192x2048.Idx) (h0 : (z 0).val = 256 * t.val + (y 0).val) (h1 : (z 1).val = (y 1).val) :
    ((outsAt0 m c t).1 : S256x2048.Idx → EReal) y = x1Out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) z := by
  have hy : y = ix2 (y 0 : Fin 256) (y 1 : Fin 2048) := by funext a; match a with | ⟨0, _⟩ => rfl | ⟨1, _⟩ => rfl
  have hz1 : (⟨(z 1).val, (z 1).isLt⟩ : Fin 2048) = (y 1 : Fin 2048) := Fin.ext h1
  unfold outsAt0
  dsimp only
  rw [out_12]
  unfold x1Out
  rw [hz1]
  refine Eq.trans (congrArg _ hy) ?_
  exact x1_apply m c t (y 0) (y 1) ⟨(z 0).val, (z 0).isLt⟩ h0

/-- The output's blocks tile it. -/
theorem covers12 : (cfg0.win 12).Covers := by decide +kernel

/-- The output array. -/
theorem arr12 (c : Dev nD) :
    ((dats m 0 c).arrAt 12 cfg0.N : S8192x2048.Idx → EReal) = x1Out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) :=
  (dats m 0 c).arrAt_eq_of_covers 12 (x1Out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8))) covers12 fun t hf y => by
    blk_simp
    rw [after0_12]
    exact out12_apply m c t y _ (emb12 t y).1 (emb12 t y).2

/-- An output array index under a block at a point. -/
theorem emb13 (t : Fin cfg0.N) (y : S256x2048.Idx) :
    ((((cfg0.win 13).blk t).view.emb y : S8192x2048.Idx) 0).val = 256 * t.val + (y 0).val ∧ ((((cfg0.win 13).blk t).view.emb y : S8192x2048.Idx) 1).val = (y 1).val := by
  constructor
  · show win0_13.index t 0 * 256 + 1 * (y 0).val = _; rw [(index13 t).1]; omega
  · show win0_13.index t 1 * 2048 + 1 * (y 1).val = _; rw [(index13 t).2]; omega

/-- A point's block is its part of the whole output. -/
theorem out13_apply (c : Dev nD) (t : Fin cfg0.N) (y : S256x2048.Idx) (z : S8192x2048.Idx) (h0 : (z 0).val = 256 * t.val + (y 0).val) (h1 : (z 1).val = (y 1).val) :
    ((outsAt0 m c t).2.1 : S256x2048.Idx → EReal) y = h2Out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) z := by
  have hy : y = ix2 (y 0 : Fin 256) (y 1 : Fin 2048) := by funext a; match a with | ⟨0, _⟩ => rfl | ⟨1, _⟩ => rfl
  have hz1 : (⟨(z 1).val, (z 1).isLt⟩ : Fin 2048) = (y 1 : Fin 2048) := Fin.ext h1
  unfold outsAt0
  dsimp only
  rw [out_13]
  unfold h2Out
  rw [hz1]
  refine Eq.trans (congrArg _ hy) ?_
  exact h2_apply m c t (y 0) (y 1) ⟨(z 0).val, (z 0).isLt⟩ h0

/-- The output's blocks tile it. -/
theorem covers13 : (cfg0.win 13).Covers := by decide +kernel

/-- The output array. -/
theorem arr13 (c : Dev nD) :
    ((dats m 0 c).arrAt 13 cfg0.N : S8192x2048.Idx → EReal) = h2Out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_covers 13 (h2Out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) covers13 fun t hf y => by
    blk_simp
    rw [after0_13]
    exact out13_apply m c t y _ (emb13 t y).1 (emb13 t y).2

end Cert.Kernel3Ideal.Merge
-- ==== Proof.MergeRef.lean ====
/-
  The reference merge, read at an index of each of its results.
-/
module

public import proofs.«01_k».proof.Proof.MergeArray
public import proofs.«01_k».proof.Proof.Gen.Reference3Ideal.Read
public import Idealize.ShloMosaic.Lib.IdealHost

@[expose] public section

noncomputable section

open Idealize.ShloMosaic Idealize.ShloMosaic.TcCoe Idealize.SL.Sem

namespace Cert.Reference3Ideal.Merge

open Cert.Reference3Ideal Cert.Reference3Ideal.Read
open Cert.Kernel3Ideal.Merge (resid x1At h2At x1Out h2Out)
open Cert.Norm (normAt)

variable (A R : S8192x2048.Idx → EReal) (P : S8192x14848.Idx → EReal) (X : S8192x2048.Idx → EReal) (M : S2x6x2048.Idx → EReal) (G : S1x2048.Idx → EReal) (WA WR WO : S2048x2048.Idx → EReal)

/-- The expansion into one over one plus an exponential is the logistic function. -/
theorem logistic_eq (x : EReal) : Ideal.div (Ideal.ofBits .f32 0x3F800000#32) (Ideal.ofBits .f32 0x3F800000#32 + Ideal.exp (-x)) = Ideal.logistic x := by
  rw [Ideal.ofBits_one_f32]
  rfl

/-- The first gate. -/
theorem v9_apply (i : S8192x2048.Idx) (a : Fin 8192) (n : Fin 2048) (ha : a.val = (i 0).val) (hn : n.val = (i 1).val) :
    val_main_v9 (F := Ideal) P i = Ideal.logistic (P (ix2 a (⟨10240 + n.val, by omega⟩ : Fin 14848))) := by
  rw [val_main_v9_apply, val_main_v8_apply, val_main_v7_apply, val_main_v6_apply, val_main_v5_apply, val_main_v4_apply, val_main_v1_apply, val_main_v0_apply]
  refine (logistic_eq _).trans (congrArg Ideal.logistic ?_)
  show P _ = P _
  congr 1; funext x; apply Fin.ext; match x with
  | ⟨0, _⟩ => exact ha.symm
  | ⟨1, _⟩ => show 10240 + (i 1).val = 10240 + n.val; rw [hn]

/-- The second gate. -/
theorem v19_apply (i : S8192x2048.Idx) (a : Fin 8192) (n : Fin 2048) (ha : a.val = (i 0).val) (hn : n.val = (i 1).val) :
    val_main_v19 (F := Ideal) P i = Ideal.logistic (P (ix2 a (⟨12288 + n.val, by omega⟩ : Fin 14848))) := by
  rw [val_main_v19_apply, val_main_v18_apply, val_main_v17_apply, val_main_v16_apply, val_main_v15_apply, val_main_v14_apply, val_main_v3_apply, val_main_v2_apply]
  refine (logistic_eq _).trans (congrArg Ideal.logistic ?_)
  show P _ = P _
  congr 1; funext x; apply Fin.ext; match x with
  | ⟨0, _⟩ => exact ha.symm
  | ⟨1, _⟩ => show 12288 + (i 1).val = 12288 + n.val; rw [hn]

/-- A product. -/
theorem v12_apply (i : S8192x2048.Idx) (a : Fin 8192) (n : Fin 2048) (ha : a.val = (i 0).val) (hn : n.val = (i 1).val) :
    val_main_v12 (F := Ideal) A WA i = ∑ d : Fin 2048, A (ix2 a d) * WA (ix2 d n) := by
  rw [val_main_v12_apply]
  refine Finset.sum_congr rfl fun d _ => ?_
  rw [val_main_v10_apply, val_main_v11_apply]
  refine congrArg₂ (· * ·) (congrArg A ?_) (congrArg WA ?_)
  · funext x; apply Fin.ext; match x with
    | ⟨0, _⟩ => exact ha.symm
    | ⟨1, _⟩ => rfl
  · funext x; apply Fin.ext; match x with
    | ⟨0, _⟩ => rfl
    | ⟨1, _⟩ => exact hn.symm

/-- A product. -/
theorem v22_apply (i : S8192x2048.Idx) (a : Fin 8192) (n : Fin 2048) (ha : a.val = (i 0).val) (hn : n.val = (i 1).val) :
    val_main_v22 (F := Ideal) R WR i = ∑ d : Fin 2048, R (ix2 a d) * WR (ix2 d n) := by
  rw [val_main_v22_apply]
  refine Finset.sum_congr rfl fun d _ => ?_
  rw [val_main_v20_apply, val_main_v21_apply]
  refine congrArg₂ (· * ·) (congrArg R ?_) (congrArg WR ?_)
  · funext x; apply Fin.ext; match x with
    | ⟨0, _⟩ => exact ha.symm
    | ⟨1, _⟩ => rfl
  · funext x; apply Fin.ext; match x with
    | ⟨0, _⟩ => rfl
    | ⟨1, _⟩ => exact hn.symm

/-- The gated sum of the two products. -/
theorem v24_apply (i : S8192x2048.Idx) (a : Fin 8192) (n : Fin 2048) (ha : a.val = (i 0).val) (hn : n.val = (i 1).val) :
    val_main_v24 (F := Ideal) A R P WA WR i
      = Ideal.logistic (P (ix2 a (⟨10240 + n.val, by omega⟩ : Fin 14848))) * (∑ d : Fin 2048, A (ix2 a d) * WA (ix2 d n))
        + Ideal.logistic (P (ix2 a (⟨12288 + n.val, by omega⟩ : Fin 14848))) * (∑ d : Fin 2048, R (ix2 a d) * WR (ix2 d n)) := by
  rw [val_main_v24_apply, val_main_v13_apply, val_main_v23_apply, v9_apply P i a n ha hn, v19_apply P i a n ha hn, v12_apply A WA i a n ha hn, v22_apply R WR i a n ha hn]
  rfl

/-- The mixed products. -/
theorem v26_apply (i : S8192x2048.Idx) (a : Fin 8192) (k : Fin 2048) (ha : a.val = (i 0).val) (hk : k.val = (i 1).val) :
    val_main_v26 (F := Ideal) A R P WA WR WO i
      = ∑ n : Fin 2048, (Ideal.logistic (P (ix2 a (⟨10240 + n.val, by omega⟩ : Fin 14848))) * (∑ d : Fin 2048, A (ix2 a d) * WA (ix2 d n))
        + Ideal.logistic (P (ix2 a (⟨12288 + n.val, by omega⟩ : Fin 14848))) * (∑ d : Fin 2048, R (ix2 a d) * WR (ix2 d n))) * WO (ix2 n k) := by
  rw [val_main_v26_apply]
  refine Finset.sum_congr rfl fun n _ => ?_
  rw [v24_apply A R P WA WR (lidx_main_v26 i n) a n ha rfl, val_main_v25_apply]
  refine congrArg₂ (· * ·) rfl (congrArg WO ?_)
  funext x; apply Fin.ext; match x with
  | ⟨0, _⟩ => rfl
  | ⟨1, _⟩ => exact hk.symm

/-- The mixed products, by batch and position. -/
theorem v27_apply (i : S2x4096x2048.Idx) (a : Fin 8192) (k : Fin 2048) (ha : a.val = 4096 * (i 0).val + (i 1).val) (hk : k.val = (i 2).val) :
    val_main_v27 (F := Ideal) A R P WA WR WO i
      = ∑ n : Fin 2048, (Ideal.logistic (P (ix2 a (⟨10240 + n.val, by omega⟩ : Fin 14848))) * (∑ d : Fin 2048, A (ix2 a d) * WA (ix2 d n))
        + Ideal.logistic (P (ix2 a (⟨12288 + n.val, by omega⟩ : Fin 14848))) * (∑ d : Fin 2048, R (ix2 a d) * WR (ix2 d n))) * WO (ix2 n k) := by
  have h1 : (i 1).val < 4096 := (i 1).isLt
  have h2 : (i 2).val < 2048 := (i 2).isLt
  rw [val_main_v27_apply]
  exact v26_apply A R P WA WR WO (idx_main_v27 i) a k (by dsimp only [idx_main_v27]; show a.val = _; omega) (by dsimp only [idx_main_v27]; show k.val = _; omega)

/-- The input rows, by batch and position. -/
theorem v28_apply (i : S2x4096x2048.Idx) (a : Fin 8192) (k : Fin 2048) (ha : a.val = 4096 * (i 0).val + (i 1).val) (hk : k.val = (i 2).val) :
    val_main_v28 (F := Ideal) X i = X (ix2 a k) := by
  have h1 : (i 1).val < 4096 := (i 1).isLt
  have h2 : (i 2).val < 2048 := (i 2).isLt
  rw [val_main_v28_apply]
  congr 1; funext x; apply Fin.ext; match x with
  | ⟨0, _⟩ => dsimp only [idx_main_v28]; show _ = a.val; omega
  | ⟨1, _⟩ => dsimp only [idx_main_v28]; show _ = k.val; omega

/-- The gate of the mixed products. -/
theorem v32_apply (i : S2x4096x2048.Idx) (b : Fin 2) (k : Fin 2048) (hb : b.val = (i 0).val) (hk : k.val = (i 2).val) :
    val_main_v32 (F := Ideal) M i = M (ix3 b (2 : Fin 6) k) := by
  have h2 : (i 2).val < 2048 := (i 2).isLt
  rw [val_main_v32_apply, val_main_v31_apply, val_main_v30_apply, val_main_v29_apply]
  congr 1; funext x; apply Fin.ext; match x with
  | ⟨0, _⟩ => dsimp only [idx_main_v32, idx_main_v31, idx_main_v30, idx_main_v29]; show _ = b.val; omega
  | ⟨1, _⟩ => rfl
  | ⟨2, _⟩ => dsimp only [idx_main_v32, idx_main_v31, idx_main_v30, idx_main_v29]; show _ = k.val; omega

/-- One plus the scale. -/
theorem v56_apply (i : S2x4096x2048.Idx) (b : Fin 2) (k : Fin 2048) (hb : b.val = (i 0).val) (hk : k.val = (i 2).val) :
    val_main_v56 (F := Ideal) M i = 1 + M (ix3 b (4 : Fin 6) k) := by
  have h2 : (i 2).val < 2048 := (i 2).isLt
  rw [val_main_v56_apply, val_main_v55_apply, val_main_v54_apply, val_main_v53_apply, val_main_v52_apply, val_main_v51_apply]
  refine congrArg₂ (· + ·) Ideal.ofBits_one_f32 ?_
  congr 1; funext x; apply Fin.ext; match x with
  | ⟨0, _⟩ => dsimp only [idx_main_v56, idx_main_v53, idx_main_v52, idx_main_v51]; show _ = b.val; omega
  | ⟨1, _⟩ => rfl
  | ⟨2, _⟩ => dsimp only [idx_main_v56, idx_main_v53, idx_main_v52, idx_main_v51]; show _ = k.val; omega

/-- The shift. -/
theorem v59_apply (i : S2x4096x2048.Idx) (b : Fin 2) (k : Fin 2048) (hb : b.val = (i 0).val) (hk : k.val = (i 2).val) :
    val_main_v59 (F := Ideal) M i = M (ix3 b (3 : Fin 6) k) := by
  have h2 : (i 2).val < 2048 := (i 2).isLt
  rw [val_main_v59_apply, val_main_v58_apply, val_main_v50_apply, val_main_v49_apply]
  congr 1; funext x; apply Fin.ext; match x with
  | ⟨0, _⟩ => dsimp only [idx_main_v59, idx_main_v58, idx_main_v50, idx_main_v49]; show _ = b.val; omega
  | ⟨1, _⟩ => rfl
  | ⟨2, _⟩ => dsimp only [idx_main_v59, idx_main_v58, idx_main_v50, idx_main_v49]; show _ = k.val; omega

/-- The residual, by batch and position. -/
theorem v34_apply (i : S2x4096x2048.Idx) (a : Fin 8192) (k : Fin 2048) (ha : a.val = 4096 * (i 0).val + (i 1).val) (hk : k.val = (i 2).val) :
    val_main_v34 (F := Ideal) A R P X M WA WR WO i = x1At A R P X M WA WR WO a k := by
  have h0 : (i 0).val < 2 := (i 0).isLt
  have h1 : (i 1).val < 4096 := (i 1).isLt
  rw [val_main_v34_apply, val_main_v33_apply, v28_apply X i a k ha hk, v27_apply A R P WA WR WO i a k ha hk, v32_apply M i ⟨a.val / 4096, by omega⟩ k (by show a.val / 4096 = _; omega) hk]
  rfl

/-- The sum of a row's squares. -/
theorem v37_apply (i : S2x4096.Idx) (a : Fin 8192) (ha : a.val = 4096 * (i 0).val + (i 1).val) :
    val_main_v37 (F := Ideal) A R P X M WA WR WO i = ∑ l : Fin 2048, x1At A R P X M WA WR WO a l * x1At A R P X M WA WR WO a l := by
  rw [val_main_v37_apply]
  refine (congrArg (· + _) (show val_main_cst_3 (F := Ideal) (Shape.Idx.first Gen.h_S_) = (0 : EReal) from Ideal.ofBits_zero .f32)).trans ((zero_add _).trans ?_)
  refine Finset.sum_congr rfl fun l _ => ?_
  rw [val_main_v36_apply, v34_apply A R P X M WA WR WO (idx_main_v37 i l) a l ha rfl]
  rfl

/-- The gain. -/
theorem v47_apply (i : S2x4096x2048.Idx) (k : Fin 2048) (hk : k.val = (i 2).val) :
    val_main_v47 (F := Ideal) G i = G (ix2 (0 : Fin 1) k) := by
  rw [val_main_v47_apply, val_main_v46_apply, val_main_v35_apply]
  have h2 : (i 2).val < 2048 := (i 2).isLt
  congr 1; funext x; apply Fin.ext; match x with
  | ⟨0, _⟩ => rfl
  | ⟨1, _⟩ => dsimp only [idx_main_v35, idx_main_v46, idx_main_v47]; show _ = k.val; omega

/-- The modulated rows, by batch and position. -/
theorem v60_apply (i : S2x4096x2048.Idx) (a : Fin 8192) (k : Fin 2048) (ha : a.val = 4096 * (i 0).val + (i 1).val) (hk : k.val = (i 2).val) :
    val_main_v60 (F := Ideal) A R P X M G WA WR WO i = h2At A R P X M G WA WR WO a k := by
  have h0 : (i 0).val < 2 := (i 0).isLt
  have h1 : (i 1).val < 4096 := (i 1).isLt
  rw [val_main_v60_apply, val_main_v57_apply, val_main_v48_apply, val_main_v45_apply, val_main_v44_apply, val_main_v43_apply, val_main_v42_apply, val_main_v40_apply, val_main_v38_apply,
    v37_apply A R P X M WA WR WO _ a ha, v34_apply A R P X M WA WR WO i a k ha hk, v47_apply G i k hk, v56_apply M i ⟨a.val / 4096, by omega⟩ k (by show a.val / 4096 = _; omega) hk,
    v59_apply M i ⟨a.val / 4096, by omega⟩ k (by show a.val / 4096 = _; omega) hk]
  rfl

/-- The reference's first result is the residual. -/
theorem v61_eq : (val_main_v61 (F := Ideal) A R P X M WA WR WO : S8192x2048.Idx → EReal) = x1Out A R P X M WA WR WO := by
  funext j
  have h0 : (j 0).val < 8192 := (j 0).isLt
  have h1 : (j 1).val < 2048 := (j 1).isLt
  rw [val_main_v61_apply]
  exact v34_apply A R P X M WA WR WO (idx_main_v61 j) ⟨(j 0).val, h0⟩ ⟨(j 1).val, h1⟩
    (by dsimp only [idx_main_v61]; omega) (by dsimp only [idx_main_v61]; omega)

/-- The reference's second result is the modulated array. -/
theorem v62_eq : (val_main_v62 (F := Ideal) A R P X M G WA WR WO : S8192x2048.Idx → EReal) = h2Out A R P X M G WA WR WO := by
  funext j
  have h0 : (j 0).val < 8192 := (j 0).isLt
  have h1 : (j 1).val < 2048 := (j 1).isLt
  rw [val_main_v62_apply]
  exact v60_apply A R P X M G WA WR WO (idx_main_v62 j) ⟨(j 0).val, h0⟩ ⟨(j 1).val, h1⟩
    (by dsimp only [idx_main_v62]; omega) (by dsimp only [idx_main_v62]; omega)

end Cert.Reference3Ideal.Merge
-- ==== Proof.MergeClaim.lean ====
/-
  The merge's value claim, put together.
-/
module

public import proofs.«01_k».proof.Defs
public import proofs.«01_k».proof.Proof.MergeRef
public import proofs.«01_k».proof.Proof.Gen.Reference3Ideal.Run

@[expose] public section

noncomputable section

open Idealize.ShloMosaic Idealize.ShloMosaic.TcCoe Idealize.SL.Sem

namespace Cert.Proof.Merge

/-- The reference runs, keeps its arguments, and has no semaphore to leave nonzero. -/
theorem frame_r : Cert.quiescent_Reference3Ideal (hReference3Ideal := Cert.Reference3Ideal.Gen.facts) :=
  fun m ρ _ => (θ_run _ _ _).mono (fun r h => ⟨fun c => (h c).2.2, sem_eq_zero_of_no_sems (by decide) r.2⟩) (Cert.Reference3Ideal.Value.run (F := Ideal) m ρ)

/-- The merge kernel computes the reference's residual and its modulated rows. -/
theorem algebraic : Cert.algebraic_Kernel3Ideal_Reference3Ideal (hKernel3Ideal := Cert.Kernel3Ideal.Gen.facts)
    (hReference3Ideal := Cert.Reference3Ideal.Gen.facts) := by
  intro m g m' g' hpre hagree
  have hv1 : ∀ c : Dev Cert.Kernel3Ideal.nD, Cert.Reference3Ideal.Value.res_main_v62 m' c
      = ((Cert.Kernel3Ideal.Gen.dats m 0 c).arrAt 13 Cert.Kernel3Ideal.cfg0.N : Cert.Kernel3Ideal.S8192x2048.Idx → EReal) := by
    intro c
    obtain ⟨a0, a1, a2, a3, a4, a5, a6, a7, a8, a9, a10⟩ := hagree c
    rw [Cert.Reference3Ideal.Read.val_main_v62_eq m' c, a0, a1, a2, a3, a4, a5, a6, a7, a8, Cert.Kernel3Ideal.Merge.arr13]
    exact Cert.Reference3Ideal.Merge.v62_eq _ _ _ _ _ _ _ _ _
  refine ⟨fun c => (Cert.Kernel3Ideal.Gen.dats m 0 c).arrAt 12 Cert.Kernel3Ideal.cfg0.N, fun c => (Cert.Kernel3Ideal.Gen.dats m 0 c).arrAt 13 Cert.Kernel3Ideal.cfg0.N,
    (θ_run _ _ _).mono (fun r h c => ⟨(h c).1, (h c).2.1, (h c).2.2.2⟩) (Cert.Kernel3Ideal.Value.run_blocks m g), ?_⟩
  refine (θ_run _ _ _).mono (fun r h c => ⟨?_, (h c).2.1.trans (hv1 c), (h c).2.2⟩) (Cert.Reference3Ideal.Value.run m' g')
  obtain ⟨a0, a1, a2, a3, a4, a5, a6, a7, a8, a9, a10⟩ := hagree c
  refine (h c).1.trans ?_
  rw [Cert.Reference3Ideal.Read.val_main_v61_eq, a0, a1, a2, a3, a4, a6, a7, a8]
  exact (Cert.Reference3Ideal.Merge.v61_eq _ _ _ _ _ _ _ _).trans (Cert.Kernel3Ideal.Merge.arr12 m c).symm

end Cert.Proof.Merge
-- ==== Proof.Ada.lean ====
/-
  The conditioning call: the kernel's output array index by index, the reference at an index, and the claims.
-/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit.Geometry
public import Idealize.ShloMosaic.Lib.Pointwise
public import Idealize.ShloMosaic.Lib.IdealHost

@[expose] public section

noncomputable section

open Idealize.ShloMosaic Idealize.ShloMosaic.TcCoe Idealize.SL.Sem
open Idealize.ShloMosaic.Pipeline (Dat)

namespace Cert.Kernel4Ideal.Ada

open Cert.Kernel4Ideal Cert.Kernel4Ideal.Gen Cert.Kernel4Ideal.Value

/-- Row `r` of the activated conditioning times column `n` of the weight, and the bias. -/
def adaAt (C : S8x2048.Idx → EReal) (W : S2048x12288.Idx → EReal) (B : S1x12288.Idx → EReal) (r : Fin 8) (n : Fin 12288) : EReal :=
  (∑ k : Fin 2048, (C (ix2 r k) * Ideal.logistic (C (ix2 r k))) * W (ix2 k n)) + B (ix2 (0 : Fin 1) n)

/-- The whole output. -/
def adaOut (C : S8x2048.Idx → EReal) (W : S2048x12288.Idx → EReal) (B : S1x12288.Idx → EReal) (j : S8x12288.Idx) : EReal :=
  adaAt C W B ⟨(j 0).val, (j 0).isLt⟩ ⟨(j 1).val, (j 1).isLt⟩

/-- The body's value at an index. -/
theorem pay_apply (x0 : Vec Ideal S8x2048 .f32) (x1 : Vec Ideal S2048x1024 .f32) (x2 : Vec Ideal S1x1024 .f32) (r : Fin 8) (n : Fin 1024) :
    (k0_pay1 (F := Ideal) x0 x1 x2 : S8x1024.Idx → EReal) (ix2 r n)
      = (∑ k : Fin 2048, ((x0 : S8x2048.Idx → EReal) (ix2 r k) * Ideal.logistic ((x0 : S8x2048.Idx → EReal) (ix2 r k))) * (x1 : S2048x1024.Idx → EReal) (ix2 k n)) + (x2 : S1x1024.Idx → EReal) (ix2 (0 : Fin 1) n) := by
  unfold k0_pay1
  pointwise

theorem hz : (![0, 0] : Fin 2 → Nat) = fun _ => 0 := by funext a; match a with | ⟨0, _⟩ => rfl | ⟨1, _⟩ => rfl

/-- The output block from the input blocks. -/
theorem out_3 (x0 : Vec Ideal S8x2048 .f32) (x1 : Vec Ideal S2048x1024 .f32) (x2 : Vec Ideal S1x1024 .f32) :
    out0_3 (F := Ideal) x0 x1 x2 = k0_pay1 (F := Ideal) x0 x1 x2 := by
  unfold out0_3
  rw [View.canon_unit_zero hz]
  simp only [View.ld_unit_zero (S := S8x2048) hz, View.ld_unit_zero (S := S2048x1024) hz, View.ld_unit_zero (S := S1x1024) hz]

theorem index0 : ∀ t : Fin grid0.N, win0_0.index t 0 = 0 ∧ win0_0.index t 1 = 0 := by decide +kernel
theorem index1 : ∀ t : Fin grid0.N, win0_1.index t 0 = 0 ∧ win0_1.index t 1 = t.val := by decide +kernel
theorem index2 : ∀ t : Fin grid0.N, win0_2.index t 0 = 0 ∧ win0_2.index t 1 = t.val := by decide +kernel
theorem index3 : ∀ t : Fin grid0.N, win0_3.index t 0 = 0 ∧ win0_3.index t 1 = t.val := by decide +kernel

variable (m : (ℓ : Loc nD τ sig) → Buf (Elt Ideal) ℓ)

/-- The conditioning at a point: all of it. -/
theorem iblk0 (c : Dev nD) (t : Fin cfg0.N) (r : Fin 8) (k : Fin 2048) :
    (iblk m c 0 t : S8x2048.Idx → EReal) (ix2 r k) = (m ((c : Thread nD τ).loc main_arg0) : S8x2048.Idx → EReal) (ix2 r k) := by
  unfold iblk
  rw [View.read_apply]
  show V m c main_arg0 _ = m _ _
  unfold V
  congr 1; funext x; apply Fin.ext; match x with
  | ⟨0, _⟩ => show win0_0.index t 0 * 8 + 1 * r.val = r.val; rw [(index0 t).1]; omega
  | ⟨1, _⟩ => show win0_0.index t 1 * 2048 + 1 * k.val = k.val; rw [(index0 t).2]; omega

/-- The weight's columns at a point. -/
theorem iblk1 (c : Dev nD) (t : Fin cfg0.N) (k : Fin 2048) (n : Fin 1024) (a : Fin 12288) (ha : a.val = 1024 * t.val + n.val) :
    (iblk m c 1 t : S2048x1024.Idx → EReal) (ix2 k n) = (m ((c : Thread nD τ).loc main_arg1) : S2048x12288.Idx → EReal) (ix2 k a) := by
  unfold iblk
  rw [View.read_apply]
  show V m c main_arg1 _ = m _ _
  unfold V
  congr 1; funext x; apply Fin.ext; match x with
  | ⟨0, _⟩ => show win0_1.index t 0 * 2048 + 1 * k.val = k.val; rw [(index1 t).1]; omega
  | ⟨1, _⟩ => show win0_1.index t 1 * 1024 + 1 * n.val = a.val; rw [(index1 t).2]; omega

/-- The bias at a point. -/
theorem iblk2 (c : Dev nD) (t : Fin cfg0.N) (n : Fin 1024) (a : Fin 12288) (ha : a.val = 1024 * t.val + n.val) :
    (iblk m c 2 t : S1x1024.Idx → EReal) (ix2 (0 : Fin 1) n) = (m ((c : Thread nD τ).loc main_arg2) : S1x12288.Idx → EReal) (ix2 (0 : Fin 1) a) := by
  unfold iblk
  rw [View.read_apply]
  show V m c main_arg2 _ = m _ _
  unfold V
  congr 1; funext x; apply Fin.ext; match x with
  | ⟨0, _⟩ => show win0_2.index t 0 * 1 + 1 * 0 = 0; rw [(index2 t).1]
  | ⟨1, _⟩ => show win0_2.index t 1 * 1024 + 1 * n.val = a.val; rw [(index2 t).2]; omega

/-- An output array index under a block at a point. -/
theorem emb3 (t : Fin cfg0.N) (y : S8x1024.Idx) :
    ((((cfg0.win 3).blk t).view.emb y : S8x12288.Idx) 0).val = (y 0).val ∧ ((((cfg0.win 3).blk t).view.emb y : S8x12288.Idx) 1).val = 1024 * t.val + (y 1).val := by
  constructor
  · show win0_3.index t 0 * 8 + 1 * (y 0).val = _; rw [(index3 t).1]; omega
  · show win0_3.index t 1 * 1024 + 1 * (y 1).val = _; rw [(index3 t).2]; omega

/-- A point's block is its part of the whole output. -/
theorem out_apply (c : Dev nD) (t : Fin cfg0.N) (y : S8x1024.Idx) (z : S8x12288.Idx) (h0 : (z 0).val = (y 0).val) (h1 : (z 1).val = 1024 * t.val + (y 1).val) :
    (out0_3 (F := Ideal) (iblk m c 0 t) (iblk m c 1 t) (iblk m c 2 t) : S8x1024.Idx → EReal) y
      = adaOut (m ((c : Thread nD τ).loc main_arg0)) (m ((c : Thread nD τ).loc main_arg1)) (m ((c : Thread nD τ).loc main_arg2)) z := by
  have hy : y = ix2 (y 0 : Fin 8) (y 1 : Fin 1024) := by funext a; match a with | ⟨0, _⟩ => rfl | ⟨1, _⟩ => rfl
  have hz0 : (⟨(z 0).val, (z 0).isLt⟩ : Fin 8) = (y 0 : Fin 8) := Fin.ext h0
  rw [out_3]
  unfold adaOut adaAt
  rw [hz0]
  refine Eq.trans (congrArg _ hy) ((pay_apply _ _ _ (y 0) (y 1)).trans ?_)
  rw [iblk2 m c t (y 1) ⟨(z 1).val, (z 1).isLt⟩ h1]
  refine congrArg (· + _) (Finset.sum_congr rfl fun k _ => ?_)
  rw [iblk0 m c t (y 0) k, iblk1 m c t k (y 1) ⟨(z 1).val, (z 1).isLt⟩ h1]

/-- The output's blocks tile it. -/
theorem covers : (cfg0.win 3).Covers := by decide +kernel

/-- The output array. -/
theorem arr_eq (c : Dev nD) :
    ((dats m 0 c).arrAt 3 cfg0.N : S8x12288.Idx → EReal) = adaOut (m ((c : Thread nD τ).loc main_arg0)) (m ((c : Thread nD τ).loc main_arg1)) (m ((c : Thread nD τ).loc main_arg2)) :=
  (dats m 0 c).arrAt_eq_of_covers 3 (adaOut (m ((c : Thread nD τ).loc main_arg0)) (m ((c : Thread nD τ).loc main_arg1)) (m ((c : Thread nD τ).loc main_arg2))) covers fun t hf y => by
    blk_simp
    rw [after0_3]
    exact out_apply m c t y _ (emb3 t y).1 (emb3 t y).2

end Cert.Kernel4Ideal.Ada

namespace Cert.Reference4Ideal.Ada

open Cert.Reference4Ideal Cert.Reference4Ideal.Read
open Cert.Kernel4Ideal.Ada (adaAt adaOut)

/-- The expansion into one over one plus an exponential is the logistic function. -/
theorem logistic_eq (x : EReal) : Ideal.div (Ideal.ofBits .f32 0x3F800000#32) (Ideal.ofBits .f32 0x3F800000#32 + Ideal.exp (-x)) = Ideal.logistic x := by
  rw [Ideal.ofBits_one_f32]
  rfl

/-- The activated conditioning. -/
theorem v0_apply (C : S8x2048.Idx → EReal) (i : S8x2048.Idx) : val_main_v0 (F := Ideal) C i = C i * Ideal.logistic (C i) := by
  rw [val_main_v0_apply, val_main_call0_v5_apply, val_main_call0_v4_apply, val_main_call0_cst_0_apply, val_main_call0_v3_apply, val_main_call0_v2_apply, val_main_call0_cst_apply, val_main_call0_v1_apply, val_main_call0_v0_apply]
  exact congrArg (C i * ·) (logistic_eq (C i))

/-- The reference's output. -/
theorem v3_eq (C : S8x2048.Idx → EReal) (W : S2048x12288.Idx → EReal) (B : S1x12288.Idx → EReal) :
    (val_main_v3 (F := Ideal) C W B : S8x12288.Idx → EReal) = adaOut C W B := by
  funext i
  rw [val_main_v3_apply, val_main_v1_apply, val_main_v2_apply]
  refine congrArg₂ (· + ·) (Finset.sum_congr rfl fun k _ => ?_) (congrArg B ?_)
  · rw [v0_apply]
    have hl : lidx_main_v1 i k = ix2 (⟨(i 0).val, (i 0).isLt⟩ : Fin 8) k := by
      funext x; apply Fin.ext; match x with
      | ⟨0, _⟩ => rfl
      | ⟨1, _⟩ => rfl
    have hr : ridx_main_v1 i k = ix2 k (⟨(i 1).val, (i 1).isLt⟩ : Fin 12288) := by
      funext x; apply Fin.ext; match x with
      | ⟨0, _⟩ => rfl
      | ⟨1, _⟩ => rfl
    rw [hl, hr]
  · funext x; apply Fin.ext; match x with
    | ⟨0, _⟩ => rfl
    | ⟨1, _⟩ => rfl

end Cert.Reference4Ideal.Ada

namespace Cert.Proof.Ada

/-- The reference runs, keeps its arguments, and has no semaphore to leave nonzero. -/
theorem frame_r : Cert.quiescent_Reference4Ideal (hReference4Ideal := Cert.Reference4Ideal.Gen.facts) :=
  fun m ρ _ => (θ_run _ _ _).mono (fun r h => ⟨fun c => (h c).2, sem_eq_zero_of_no_sems (by decide) r.2⟩) (Cert.Reference4Ideal.Value.run (F := Ideal) m ρ)

/-- The conditioning kernel computes the reference conditioning. -/
theorem algebraic : Cert.algebraic_Kernel4Ideal_Reference4Ideal (hKernel4Ideal := Cert.Kernel4Ideal.Gen.facts)
    (hReference4Ideal := Cert.Reference4Ideal.Gen.facts) := by
  intro m g m' g' hpre hagree
  have hv : ∀ c : Dev Cert.Kernel4Ideal.nD,
      Cert.Reference4Ideal.Read.val_main_v3 (F := Ideal) (m' ((c.tc : Thread Cert.Reference4Ideal.nD Cert.Reference4Ideal.τ).loc Cert.Reference4Ideal.main_arg0))
          (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2))
        = ((Cert.Kernel4Ideal.Gen.dats m 0 c).arrAt 3 Cert.Kernel4Ideal.cfg0.N : Cert.Kernel4Ideal.S8x12288.Idx → EReal) := by
    intro c
    obtain ⟨a0, a1, a2⟩ := hagree c
    rw [a0, a1, a2, Cert.Kernel4Ideal.Ada.arr_eq]
    exact Cert.Reference4Ideal.Ada.v3_eq _ _ _
  refine ⟨fun c => (Cert.Kernel4Ideal.Gen.dats m 0 c).arrAt 3 Cert.Kernel4Ideal.cfg0.N, Cert.Kernel4Ideal.Value.run_blocks m g, ?_⟩
  refine (θ_run _ _ _).mono (fun r h c => ⟨((h c).1.trans (Cert.Reference4Ideal.Read.val_main_v3_eq (F := Ideal) _ _ _)).trans (hv c), (h c).2⟩) (Cert.Reference4Ideal.Value.run m' g')

end Cert.Proof.Ada
-- ==== Proof.RankBlock.lean ====
/-
  What one grid point of the ranking leaves in its output blocks and in the counts it carries.
-/
module

public import proofs.«01_k».proof.Proof.Gen.Kernel5Ideal.Value
public import Idealize.ShloMosaic.Lib.Pipeline.ReadBack
public import Idealize.ShloMosaic.Lib.Pointwise

@[expose] public section

noncomputable section

open Idealize.ShloMosaic Idealize.ShloMosaic.TcCoe Idealize.SL.Sem

namespace Cert.Kernel5Ideal.Rank

open Cert.Kernel5Ideal Cert.Kernel5Ideal.Gen

theorem hz : (![0, 0] : Fin 2 → Nat) = fun _ => 0 := funext fun a => by fin_cases a <;> rfl

open Classical in
/-- A value where a column's number is the given one, else zero. -/
def pick (l : Fin 128) (u : EReal) (x : EReal) : EReal := if ((l.val : ℝ) : EReal) = u then x else 0

open Classical in
/-- One where a column's number is one of the two given, else zero. -/
def chosen (l : Fin 128) (u v : EReal) : EReal := if ((l.val : ℝ) : EReal) = u ∨ ((l.val : ℝ) : EReal) = v then 1 else 0

/-- A column's number, read from a word. -/
theorem lane_word (l : Fin 128) : ((BitVec.ofNat 32 l.val).toInt : ℝ) = (l.val : ℝ) := by
  have h : (BitVec.ofNat 32 l.val).toInt = (l.val : ℤ) := by
    rw [BitVec.toInt_eq_toNat_cond, BitVec.toNat_ofNat]
    have := l.isLt
    rw [Nat.mod_eq_of_lt (by omega), if_pos (by omega)]
  rw [h]; norm_cast

/-- A column's number, as a value. -/
theorem lane_val (l : Fin 128) : (FloatOps.sitofp (F := Ideal) .f32 (BitVec.ofNat 32 l.val) : EReal) = ((l.val : ℝ) : EReal) :=
  congrArg (fun x : ℝ => (x : EReal)) (lane_word l)

/-- A small number, read from a word. -/
theorem word_int (n : Nat) (h : n < 2 ^ 31) : (BitVec.ofNat 32 n).toInt = (n : ℤ) := by
  rw [BitVec.toInt_eq_toNat_cond, BitVec.toNat_ofNat, Nat.mod_eq_of_lt (by omega), if_pos (by omega)]

/-- A choice by an order of small numbers. -/
theorem select_gt (a b : Nat) (ha : a < 2 ^ 31) (hb : b < 2 ^ 31) (x y : EReal) :
    Scalar.select (IntOp.cmpi .sgt (BitVec.ofNat 32 a) (BitVec.ofNat 32 b)) x y = if b < a then x else y := by
  refine (Scalar.select_def _ _ _).trans (if_congr (IntOp.cmpi_sgt.trans ?_) rfl rfl)
  rw [word_int a ha, word_int b hb]
  exact Nat.cast_lt

/-- A choice by an equality of small numbers. -/
theorem select_eq (a b : Nat) (ha : a < 2 ^ 31) (hb : b < 2 ^ 31) (x y : EReal) :
    Scalar.select (IntOp.cmpi .eq (BitVec.ofNat 32 a) (BitVec.ofNat 32 b)) x y = if a = b then x else y := by
  have e : BitVec.ofNat 32 a = BitVec.ofNat 32 b ↔ a = b :=
    ⟨fun h => by have := congrArg BitVec.toInt h; rw [word_int a ha, word_int b hb] at this; exact_mod_cast this, fun h => h ▸ rfl⟩
  exact (Scalar.select_def _ _ _).trans (if_congr (IntOp.cmpi_eq.trans e) rfl rfl)

/-- A choice by either of two conditions. -/
theorem select_or (p q : Prop) [Decidable p] [Decidable q] (x y : EReal) :
    Scalar.select (IntOp.ori (BitVec.ofBool (decide p)) (BitVec.ofBool (decide q))) x y = if p ∨ q then x else y := by
  by_cases hp : p <;> by_cases hq : q <;> simp [hp, hq, Scalar.select_def, IntOp.ori]

/-- The two columns' choice, at an index. -/
theorem pay8_apply (v3 : Vec Ideal S256x128 .f32) (r : Fin 256) (l : Fin 128) :
    (k0_pay8 (F := Ideal) v3 : S256x128.Idx → EReal) (ix2 r l) = chosen l (v3 (ix2 r (0 : Fin 128))) (v3 (ix2 r (1 : Fin 128))) := by
  unfold k0_pay8 k0_pay6 k0_pay7 k0_pay5
  pointwise
  rw [select_or]
  unfold chosen
  simp only [lane_val]

/-- The earlier choices, at an index. -/
theorem pay9_apply (v3 : Vec Ideal S256x128 .f32) (v25 : Vec Ideal S1x128 .f32) (r : Fin 256) (l : Fin 128) :
    (k0_pay9 (F := Ideal) v3 v25 : S256x128.Idx → EReal) (ix2 r l)
      = (∑ k : Fin 256, (if k.val < r.val then (k0_pay8 (F := Ideal) v3 : S256x128.Idx → EReal) (ix2 k l) else 0)) + v25 (ix2 (0 : Fin 1) l) := by
  unfold k0_pay9
  generalize k0_pay8 (F := Ideal) v3 = z
  pointwise
  refine congrArg (· + _) (Finset.sum_congr rfl fun k _ => ?_)
  exact select_gt _ _ (by have := r.isLt; omega) (by have := k.isLt; omega) _ _

/-- The first choice's rank, at an index. -/
theorem pay10_apply (v3 : Vec Ideal S256x128 .f32) (v25 : Vec Ideal S1x128 .f32) (r : Fin 256) :
    (k0_pay10 (F := Ideal) v3 v25 : S256x1.Idx → EReal) (ix2 r (0 : Fin 1))
      = ∑ l : Fin 128, pick l (v3 (ix2 r (0 : Fin 128))) ((k0_pay9 (F := Ideal) v3 v25 : S256x128.Idx → EReal) (ix2 r l)) := by
  unfold k0_pay10 k0_pay6 k0_pay5
  generalize k0_pay9 (F := Ideal) v3 v25 = z
  pointwise
  refine Finset.sum_congr rfl fun l _ => ?_
  unfold pick
  simp only [lane_val]

/-- The second choice's rank, at an index. -/
theorem pay11_apply (v3 : Vec Ideal S256x128 .f32) (v25 : Vec Ideal S1x128 .f32) (r : Fin 256) :
    (k0_pay11 (F := Ideal) v3 v25 : S256x1.Idx → EReal) (ix2 r (0 : Fin 1))
      = ∑ l : Fin 128, pick l (v3 (ix2 r (1 : Fin 128))) ((k0_pay9 (F := Ideal) v3 v25 : S256x128.Idx → EReal) (ix2 r l)) := by
  unfold k0_pay11 k0_pay7 k0_pay5
  generalize k0_pay9 (F := Ideal) v3 v25 = z
  pointwise
  refine Finset.sum_congr rfl fun l _ => ?_
  unfold pick
  simp only [lane_val]

/-- The counts, at an index. -/
theorem pay2_apply (v15 : FVec Ideal S256x128 .f32) (v48 : Vec Ideal S1x128 .f32) (l : Fin 128) :
    (k0_pay2 (F := Ideal) v15 v48 : S1x128.Idx → EReal) (ix2 (0 : Fin 1) l) = v48 (ix2 (0 : Fin 1) l) + ∑ k : Fin 256, v15 (ix2 k l) := by
  unfold k0_pay2
  pointwise

/-- The zero counts, at an index. -/
theorem pay4_apply (l : Fin 128) : (k0_pay4 (F := Ideal) : S1x128.Idx → EReal) (ix2 (0 : Fin 1) l) = 0 := by
  unfold k0_pay4
  pointwise

/-- The block of ranks, at an index: the two ranks in the first two columns. -/
theorem pay1_apply (v31 v35 : FVec Ideal S256x1 .f32) (r : Fin 256) (l : Fin 128) :
    (k0_pay1 (F := Ideal) v31 v35 (k0_pay12) (k0_pay13) (Scalar.ofBits .f32 0x00000000#32) : S256x128.Idx → EReal) (ix2 r l)
      = if l.val = 0 then v31 (ix2 r (0 : Fin 1)) else if l.val = 1 then v35 (ix2 r (0 : Fin 1)) else 0 := by
  unfold k0_pay1 k0_pay12 k0_pay13
  pointwise
  have hl := l.isLt
  exact (select_eq l.val 0 (by omega) (by decide) _ _).trans (congrArg (fun z => if l.val = 0 then v31 (ix2 r (0 : Fin 1)) else z) (select_eq l.val 1 (by omega) (by decide) _ _))

/-- The block of ranks at a first point. -/
theorem rank_A (c : Dev nD) (i : grid0.Coords) (arg1 : Memref sig .tc .vmem S256x128 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S1x128 .f32) (harg4 : arg4.IsWhole) (hc0 : cond0_0 i)
    (x0 : Vec Ideal S256x128 .f32) :
    out0_A_1 c i arg1 harg1 arg2 harg2 arg3 harg3 arg4 harg4 hc0 x0 = k0_pay1 (F := Ideal) (k0_pay10 (F := Ideal) x0 (k0_pay4 (F := Ideal))) (k0_pay11 (F := Ideal) x0 (k0_pay4 (F := Ideal))) (k0_pay12) (k0_pay13) (Scalar.ofBits .f32 0x00000000#32) := by
  unfold out0_A_1
  rw [View.read_writes_eq_canon _ _ _ (cover0_A_1 c i arg1 harg1 arg2 harg2 arg3 harg3 arg4 harg4 hc0 x0)]
  unfold kernelRun0_A
  dsimp only
  sl_unfold_words
  rw [View.canon_unit_zero hz]
  simp only [↓View.readCov_skip, ↓View.readCov_fill, View.readAt_eq_ld, harg1.read_unread, View.readCov_unit_zero (S := S1x128) _ hz, View.ld_unit_zero (S := S256x128) hz, View.ld_unit_zero (S := S1x128) hz, shapeCast_self]

/-- The counts written at a first point. -/
theorem count_A (c : Dev nD) (i : grid0.Coords) (arg1 : Memref sig .tc .vmem S256x128 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S1x128 .f32) (harg4 : arg4.IsWhole) (hc0 : cond0_0 i)
    (x0 : Vec Ideal S256x128 .f32) :
    out0_A_2 c i arg1 harg1 arg2 harg2 arg3 harg3 arg4 harg4 hc0 x0 = k0_pay2 (F := Ideal) (k0_pay8 (F := Ideal) x0) (k0_pay4 (F := Ideal)) := by
  unfold out0_A_2
  rw [View.read_writes_eq_canon _ _ _ (cover0_A_2 c i arg1 harg1 arg2 harg2 arg3 harg3 arg4 harg4 hc0 x0)]
  unfold kernelRun0_A
  dsimp only
  sl_unfold_words
  rw [View.canon_unit_zero hz]
  simp only [↓View.readCov_skip, ↓View.readCov_fill, View.readAt_eq_ld, harg1.read_unread, View.readCov_unit_zero (S := S1x128) _ hz, View.ld_unit_zero (S := S256x128) hz, View.ld_unit_zero (S := S1x128) hz, shapeCast_self]

/-- The counts carried at a first point. -/
theorem carry_A (c : Dev nD) (i : grid0.Coords) (arg1 : Memref sig .tc .vmem S256x128 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S1x128 .f32) (harg4 : arg4.IsWhole) (hc0 : cond0_0 i)
    (x0 : Vec Ideal S256x128 .f32) :
    sout0_A_0 c i arg1 harg1 arg2 harg2 arg3 harg3 arg4 harg4 hc0 x0 = k0_pay2 (F := Ideal) (k0_pay8 (F := Ideal) x0) (k0_pay4 (F := Ideal)) := by
  unfold sout0_A_0
  rw [View.read_writes_eq_canon _ _ _ (scover0_A_0 c i arg1 harg1 arg2 harg2 arg3 harg3 arg4 harg4 hc0 x0)]
  unfold kernelRun0_A
  dsimp only
  sl_unfold_words
  rw [View.canon_cons_unit_zero hz]
  simp only [↓View.readCov_skip, ↓View.readCov_fill, View.readAt_eq_ld, harg1.read_unread, View.readCov_unit_zero (S := S1x128) _ hz, View.ld_unit_zero (S := S256x128) hz, View.ld_unit_zero (S := S1x128) hz, shapeCast_self]
  unfold k0_pay3; exact shapeCast_self _ _

/-- The block of ranks at a later point. -/
theorem rank_B (c : Dev nD) (i : grid0.Coords) (arg1 : Memref sig .tc .vmem S256x128 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S1x128 .f32) (harg4 : arg4.IsWhole) (hc0 : ¬cond0_0 i)
    (x0 : Vec Ideal S256x128 .f32) (xs0 : Vec Ideal S1x128 .f32) :
    out0_B_1 c i arg1 harg1 arg2 harg2 arg3 harg3 arg4 harg4 hc0 x0 xs0 = k0_pay1 (F := Ideal) (k0_pay10 (F := Ideal) x0 xs0) (k0_pay11 (F := Ideal) x0 xs0) (k0_pay12) (k0_pay13) (Scalar.ofBits .f32 0x00000000#32) := by
  unfold out0_B_1
  rw [View.read_writes_eq_canon _ _ _ (cover0_B_1 c i arg1 harg1 arg2 harg2 arg3 harg3 arg4 harg4 hc0 x0 xs0)]
  unfold kernelRun0_B
  dsimp only
  sl_unfold_words
  rw [View.canon_unit_zero hz]
  simp only [View.readAt_eq_ld, harg1.read_unread, harg4.read_unread, View.readCov_unit_zero (S := S1x128) _ hz, View.ld_unit_zero (S := S256x128) hz, View.ld_unit_zero (S := S1x128) hz, shapeCast_self]

/-- The counts written at a later point. -/
theorem count_B (c : Dev nD) (i : grid0.Coords) (arg1 : Memref sig .tc .vmem S256x128 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S1x128 .f32) (harg4 : arg4.IsWhole) (hc0 : ¬cond0_0 i)
    (x0 : Vec Ideal S256x128 .f32) (xs0 : Vec Ideal S1x128 .f32) :
    out0_B_2 c i arg1 harg1 arg2 harg2 arg3 harg3 arg4 harg4 hc0 x0 xs0 = k0_pay2 (F := Ideal) (k0_pay8 (F := Ideal) x0) xs0 := by
  unfold out0_B_2
  rw [View.read_writes_eq_canon _ _ _ (cover0_B_2 c i arg1 harg1 arg2 harg2 arg3 harg3 arg4 harg4 hc0 x0 xs0)]
  unfold kernelRun0_B
  dsimp only
  sl_unfold_words
  rw [View.canon_unit_zero hz]
  simp only [View.readAt_eq_ld, harg1.read_unread, harg4.read_unread, View.readCov_unit_zero (S := S1x128) _ hz, View.ld_unit_zero (S := S256x128) hz, View.ld_unit_zero (S := S1x128) hz, shapeCast_self]

/-- The counts carried at a later point. -/
theorem carry_B (c : Dev nD) (i : grid0.Coords) (arg1 : Memref sig .tc .vmem S256x128 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S1x128 .f32) (harg4 : arg4.IsWhole) (hc0 : ¬cond0_0 i)
    (x0 : Vec Ideal S256x128 .f32) (xs0 : Vec Ideal S1x128 .f32) :
    sout0_B_0 c i arg1 harg1 arg2 harg2 arg3 harg3 arg4 harg4 hc0 x0 xs0 = k0_pay2 (F := Ideal) (k0_pay8 (F := Ideal) x0) xs0 := by
  unfold sout0_B_0
  rw [View.read_writes_eq_canon _ _ _ (scover0_B_0 c i arg1 harg1 arg2 harg2 arg3 harg3 arg4 harg4 hc0 x0 xs0)]
  unfold kernelRun0_B
  dsimp only
  sl_unfold_words
  rw [View.canon_unit_zero hz]
  simp only [View.readAt_eq_ld, harg1.read_unread, harg4.read_unread, View.readCov_unit_zero (S := S1x128) _ hz, View.ld_unit_zero (S := S256x128) hz, View.ld_unit_zero (S := S1x128) hz, shapeCast_self]
  unfold k0_pay3; exact shapeCast_self _ _

end Cert.Kernel5Ideal.Rank
-- ==== Proof.RankArray.lean ====
/-
  The ranking's two output arrays, index by index, as functions of its argument.
-/
module

public import proofs.«01_k».proof.Proof.RankBlock
public import Idealize.ShloMosaic.Lib.Pipeline.ValueKit.Geometry

@[expose] public section

noncomputable section

open Idealize.ShloMosaic Idealize.ShloMosaic.TcCoe Idealize.SL.Sem
open Idealize.ShloMosaic.Pipeline (Dat)

namespace Cert.Kernel5Ideal.Rank

open Cert.Kernel5Ideal Cert.Kernel5Ideal.Gen Cert.Kernel5Ideal.Value

/-- One where row `a` chose `l`, zero elsewhere. -/
def ch (A : S8192x128.Idx → EReal) (a : Fin 8192) (l : Fin 128) : EReal :=
  chosen l (A (ix2 a (0 : Fin 128))) (A (ix2 a (1 : Fin 128)))

/-- The sum over the rows before row `n`. -/
def upTo (f : Fin 8192 → EReal) (n : ℕ) : EReal := ∑ b : Fin 8192, if b.val < n then f b else 0

/-- The number of rows before row `a` that chose what row `a` chose in column `s`. -/
def rankAt (A : S8192x128.Idx → EReal) (a : Fin 8192) (s : Fin 128) : EReal :=
  ∑ l : Fin 128, pick l (A (ix2 a s)) (upTo (fun b => ch A b l) a.val)

/-- The whole array of ranks. -/
def rankOut (A : S8192x128.Idx → EReal) (j : S8192x128.Idx) : EReal :=
  if (j 1).val = 0 then rankAt A ⟨(j 0).val, (j 0).isLt⟩ 0 else if (j 1).val = 1 then rankAt A ⟨(j 0).val, (j 0).isLt⟩ 1 else 0

/-- The whole array of counts. -/
def countOut (A : S8192x128.Idx → EReal) (j : S1x128.Idx) : EReal :=
  ∑ b : Fin 8192, ch A b ⟨(j 1).val, (j 1).isLt⟩

/-- A sum of the first terms, over the numbers below the bound. -/
theorem sum_lt {M : ℕ} (f : Fin M → EReal) (n : ℕ) (hn : n ≤ M) :
    (∑ b : Fin M, if b.val < n then f b else 0) = ∑ i ∈ Finset.range n, if h : i < M then f ⟨i, h⟩ else 0 := by
  have e : ∀ b : Fin M, (if b.val < n then f b else 0) = (fun i => if i < n then (if h : i < M then f ⟨i, h⟩ else 0) else 0) b.val := fun b => by
    dsimp only
    rw [dif_pos b.isLt]
  rw [Finset.sum_congr rfl fun b _ => e b, Fin.sum_univ_eq_sum_range (fun i => if i < n then (if h : i < M then f ⟨i, h⟩ else 0) else 0) M, ← Finset.sum_filter]
  refine Finset.sum_congr (Finset.ext fun i => ?_) fun _ _ => rfl
  rw [Finset.mem_filter, Finset.mem_range, Finset.mem_range]
  omega

/-- No row comes before the first. -/
theorem upTo_zero (f : Fin 8192 → EReal) : upTo f 0 = 0 := by
  unfold upTo
  rw [sum_lt f 0 (Nat.zero_le _)]
  rfl

/-- The sum goes on by the first rows of the next block. -/
theorem upTo_add (f : Fin 8192 → EReal) (t q : ℕ) (ht : t < 32) (hq : q ≤ 256) :
    upTo f (256 * t + q) = upTo f (256 * t) + ∑ k : Fin 256, if k.val < q then f ⟨256 * t + k.val, by omega⟩ else 0 := by
  unfold upTo
  rw [sum_lt f _ (by omega), sum_lt f _ (by omega), sum_lt (fun k : Fin 256 => f ⟨256 * t + k.val, by omega⟩) q hq, Finset.sum_range_add]
  refine congrArg _ (Finset.sum_congr rfl fun i hi => ?_)
  have hi' : i < q := Finset.mem_range.1 hi
  rw [dif_pos (by omega), dif_pos (by omega)]

/-- Beyond the last row the sum is over all rows. -/
theorem upTo_all (f : Fin 8192 → EReal) : upTo f 8192 = ∑ b : Fin 8192, f b :=
  Finset.sum_congr rfl fun b _ => if_pos b.isLt

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 := by decide +kernel

/-- The counts are written back after the last point only. -/
theorem last2 : ∀ t : Fin grid0.N, win0_2.flush t = true → t.val = 31 := by decide +kernel

variable (m : (ℓ : Loc nD τ sig) → Buf (Elt Ideal) ℓ)

/-- The argument. -/
abbrev arg (c : Dev nD) : S8192x128.Idx → EReal := m ((c : Thread nD τ).loc main_arg0)

/-- The rows at a point. -/
theorem iblk0 (c : Dev nD) (t : Fin cfg0.N) (r : Fin 256) (k : Fin 128) (a : Fin 8192) (ha : a.val = 256 * t.val + r.val) :
    (iblk m c 0 t : S256x128.Idx → EReal) (ix2 r k) = arg m c (ix2 a k) := by
  unfold iblk
  rw [View.read_apply]
  show V m c main_arg0 _ = m _ _
  unfold V
  congr 1; funext x; apply Fin.ext; match x with
  | ⟨0, _⟩ => show win0_0.index t 0 * 256 + 1 * r.val = a.val; rw [(index0 t).1]; omega
  | ⟨1, _⟩ => show win0_0.index t 1 * 128 + 1 * k.val = k.val; rw [(index0 t).2]; omega

/-- A point's choices. -/
theorem choice (c : Dev nD) (t : Fin cfg0.N) (r : Fin 256) (l : Fin 128) (a : Fin 8192) (ha : a.val = 256 * t.val + r.val) :
    (k0_pay8 (F := Ideal) (iblk m c 0 t) : S256x128.Idx → EReal) (ix2 r l) = ch (arg m c) a l := by
  refine (pay8_apply _ r l).trans ?_
  unfold ch
  rw [iblk0 m c t r 0 a ha, iblk0 m c t r 1 a ha]

theorem lt32 (t : Fin cfg0.N) : t.val < 32 := lt_of_lt_of_eq t.isLt N_0

/-- The counts after a point, from those before it. -/
theorem counts_step (c : Dev nD) (t : Fin cfg0.N) (car : Vec Ideal S1x128 .f32)
    (hcar : ∀ l : Fin 128, car (ix2 (0 : Fin 1) l) = upTo (fun b => ch (arg m c) b l) (256 * t.val)) (l : Fin 128) :
    (k0_pay2 (F := Ideal) (k0_pay8 (F := Ideal) (iblk m c 0 t)) car : S1x128.Idx → EReal) (ix2 (0 : Fin 1) l) = upTo (fun b => ch (arg m c) b l) (256 * t.val + 256) := by
  refine (pay2_apply _ _ l).trans ?_
  rw [hcar, upTo_add _ _ _ (lt32 t) (le_refl _)]
  refine congrArg _ (Finset.sum_congr rfl fun k _ => ?_)
  rw [if_pos k.isLt]
  exact choice m c t k l _ rfl

/-- What a point computes, from the counts of the rows before its own. -/
theorem point (c : Dev nD) : ∀ (n : ℕ) (h : n < cfg0.N), ∃ car : Vec Ideal S1x128 .f32,
    (∀ l : Fin 128, car (ix2 (0 : Fin 1) l) = upTo (fun b => ch (arg m c) b l) (256 * n))
    ∧ (outsAt0 m c n h).1 = k0_pay1 (F := Ideal) (k0_pay10 (F := Ideal) (iblk m c 0 ⟨n, h⟩) car) (k0_pay11 (F := Ideal) (iblk m c 0 ⟨n, h⟩) car) (k0_pay12) (k0_pay13) (Scalar.ofBits .f32 0x00000000#32)
    ∧ (outsAt0 m c n h).2.1 = k0_pay2 (F := Ideal) (k0_pay8 (F := Ideal) (iblk m c 0 ⟨n, h⟩)) car
    ∧ (outsAt0 m c n h).2.2 = k0_pay2 (F := Ideal) (k0_pay8 (F := Ideal) (iblk m c 0 ⟨n, h⟩)) car := by
  intro n
  induction n with
  | zero =>
    intro h
    refine ⟨k0_pay4 (F := Ideal), fun l => (pay4_apply l).trans (upTo_zero _).symm, ?_⟩
    rw [outsAt0_A m c ⟨0, h⟩ rfl]
    dsimp only
    rw [rank_A, count_A, carry_A]
    exact ⟨rfl, rfl, rfl⟩
  | succ n ih =>
    intro h
    obtain ⟨car, hcar, -, -, hs⟩ := ih (Nat.lt_of_succ_lt h)
    refine ⟨(outsAt0 m c n (Nat.lt_of_succ_lt h)).2.2, fun l => ?_, ?_⟩
    · rw [hs]
      exact counts_step m c ⟨n, _⟩ car hcar l
    · have h32 : n + 1 < 32 := lt_of_lt_of_eq h N_0
      rw [outsAt0_B m c ⟨n + 1, h⟩ (by show ¬(n + 1) % 32 = 0; omega)]
      dsimp only
      rw [rank_B, count_B, carry_B]
      exact ⟨rfl, rfl, rfl⟩

/-- The earlier choices at a point's row. -/
theorem earlier (c : Dev nD) (t : Fin cfg0.N) (car : Vec Ideal S1x128 .f32)
    (hcar : ∀ l : Fin 128, car (ix2 (0 : Fin 1) l) = upTo (fun b => ch (arg m c) b l) (256 * t.val)) (r : Fin 256) (l : Fin 128) (a : Fin 8192) (ha : a.val = 256 * t.val + r.val) :
    (k0_pay9 (F := Ideal) (iblk m c 0 t) car : S256x128.Idx → EReal) (ix2 r l) = upTo (fun b => ch (arg m c) b l) a.val := by
  refine (pay9_apply _ _ r l).trans ?_
  rw [hcar, ha, upTo_add _ _ _ (lt32 t) (le_of_lt r.isLt), add_comm]
  refine congrArg _ (Finset.sum_congr rfl fun k _ => ?_)
  rw [choice m c t k l ⟨256 * t.val + k.val, by have := lt32 t; omega⟩ rfl]

/-- A point's ranks are its part of the whole array. -/
theorem rank_apply (c : Dev nD) (t : Fin cfg0.N) (r : Fin 256) (l : Fin 128) (z : S8192x128.Idx) (h0 : (z 0).val = 256 * t.val + r.val) (h1 : (z 1).val = l.val) :
    ((outsAt0 m c t.val t.isLt).1 : S256x128.Idx → EReal) (ix2 r l) = rankOut (arg m c) z := by
  obtain ⟨car, hcar, hout, -, -⟩ := point m c t.val t.isLt
  rw [hout]
  refine (pay1_apply _ _ r l).trans ?_
  unfold rankOut rankAt
  rw [h1, pay10_apply, pay11_apply]
  refine if_congr Iff.rfl (Finset.sum_congr rfl fun k _ => ?_) (if_congr Iff.rfl (Finset.sum_congr rfl fun k _ => ?_) rfl)
  · exact congrArg₂ (pick k) (iblk0 m c t r 0 ⟨(z 0).val, (z 0).isLt⟩ h0) (earlier m c t car hcar r k ⟨(z 0).val, (z 0).isLt⟩ h0)
  · exact congrArg₂ (pick k) (iblk0 m c t r 1 ⟨(z 0).val, (z 0).isLt⟩ h0) (earlier m c t car hcar r k ⟨(z 0).val, (z 0).isLt⟩ h0)

/-- The last point's counts are the whole array. -/
theorem count_apply (c : Dev nD) (t : Fin cfg0.N) (ht : t.val = 31) (l : Fin 128) (z : S1x128.Idx) (h1 : (z 1).val = l.val) :
    ((outsAt0 m c t.val t.isLt).2.1 : S1x128.Idx → EReal) (ix2 (0 : Fin 1) l) = countOut (arg m c) z := by
  obtain ⟨car, hcar, -, hout, -⟩ := point m c t.val t.isLt
  rw [hout]
  refine (counts_step m c t car hcar l).trans ?_
  rw [ht]
  refine (upTo_all _).trans ?_
  unfold countOut
  exact Finset.sum_congr rfl fun b _ => congrArg (ch (arg m c) b) (Fin.ext h1.symm)

/-- A rank's index is its row and its column. -/
theorem idx_rank (y : S256x128.Idx) : y = ix2 (y 0 : Fin 256) (y 1 : Fin 128) := by
  funext a; match a with | ⟨0, _⟩ => rfl | ⟨1, _⟩ => rfl

/-- A count's index is its column. -/
theorem idx_count (y : S1x128.Idx) : y = ix2 (0 : Fin 1) (y 1 : Fin 128) := by
  funext a; match a with
  | ⟨0, _⟩ => exact Subsingleton.elim (α := Fin 1) _ _
  | ⟨1, _⟩ => rfl

/-- A rank's place under a block at a point. -/
theorem emb1 (t : Fin cfg0.N) (y : S256x128.Idx) :
    ((((cfg0.win 1).blk t).view.emb y : S8192x128.Idx) 0).val = 256 * t.val + (y 0).val ∧ ((((cfg0.win 1).blk t).view.emb y : S8192x128.Idx) 1).val = (y 1).val := by
  constructor
  · show win0_1.index t 0 * 256 + 1 * (y 0).val = _; rw [(index1 t).1]; omega
  · show win0_1.index t 1 * 128 + 1 * (y 1).val = _; rw [(index1 t).2]; omega

/-- A count's place under a block at a point. -/
theorem emb2 (t : Fin cfg0.N) (y : S1x128.Idx) : ((((cfg0.win 2).blk t).view.emb y : S1x128.Idx) 1).val = (y 1).val := by
  show win0_2.index t 1 * 128 + 1 * (y 1).val = _; rw [(index2 t).2]; omega

/-- The outputs' blocks tile them. -/
theorem covers1 : (cfg0.win 1).Covers := by decide +kernel
theorem covers2 : (cfg0.win 2).Covers := by decide +kernel

/-- The array of ranks. -/
theorem arr1 (c : Dev nD) : ((dats m 0 c).arrAt 1 cfg0.N : S8192x128.Idx → EReal) = rankOut (arg m c) :=
  (dats m 0 c).arrAt_eq_of_covers 1 (rankOut (arg m c)) covers1 fun t hf y => by
    blk_simp
    rw [after0_1]
    exact (congrArg (outsAt0 m c t.val t.isLt).1 (idx_rank y)).trans (rank_apply m c t (y 0) (y 1) _ (emb1 t y).1 (emb1 t y).2)

/-- The array of counts. -/
theorem arr2 (c : Dev nD) : ((dats m 0 c).arrAt 2 cfg0.N : S1x128.Idx → EReal) = countOut (arg m c) :=
  (dats m 0 c).arrAt_eq_of_covers 2 (countOut (arg m c)) covers2 fun t hf y => by
    have ht := last2 t hf
    blk_simp
    rw [after0_2]
    exact (congrArg (outsAt0 m c t.val t.isLt).2.1 (idx_count y)).trans (count_apply m c t ht (y 1) _ (emb2 t y))

end Cert.Kernel5Ideal.Rank
-- ==== Proof.RankRef.lean ====
/-
  The reference ranking, read at an index of each of its results.
-/
module

public import proofs.«01_k».proof.Proof.RankArray
public import proofs.«01_k».proof.Proof.Gen.Reference5Ideal.Read
public import Idealize.ShloMosaic.Lib.IdealHost
public import Idealize.ShloMosaic.Lib.Routing.OpsOne

@[expose] public section

noncomputable section

open Idealize.ShloMosaic Idealize.ShloMosaic.TcCoe Idealize.SL.Sem

namespace Cert.Reference5Ideal.Rank

open Cert.Reference5Ideal Cert.Reference5Ideal.Read
open Cert.Kernel5Ideal.Rank (chosen pick ch upTo rankAt rankOut countOut lane_val)

/-- Adding up from zero, one entry after the other, is the sum. -/
theorem foldl_sum {N : ℕ} (f : Fin N → EReal) : (List.finRange N).foldl (fun r n => r + f n) 0 = ∑ n : Fin N, f n := by
  rw [Fin.sum_univ_def, List.sum_eq_foldl, List.foldl_map]

/-- A window of the whole height, read as the entries up to and including a row. -/
theorem sum_shift (Y : ℕ → EReal) (M j : ℕ) (hj : j < M + 1) :
    (∑ n ∈ Finset.range (M + 1), if M ≤ j + n then Y (j + n - M) else 0) = ∑ b ∈ Finset.range (j + 1), Y b := by
  rw [← Finset.sum_filter]
  refine Finset.sum_nbij' (fun n => j + n - M) (fun b => b + M - j) ?_ ?_ ?_ ?_ fun _ _ => rfl
  all_goals
    intro n hn
    simp only [Finset.mem_filter, Finset.mem_range] at *
    omega

/-- The running sum down the columns, at an index. -/
theorem running {M C : ℕ} (x : (⟨2, ![M + 1, C]⟩ : Shape).Idx → EReal) (h : (⟨2, ![M + 1, C]⟩ : Shape).ReduceWindows (![M + 1, 1] : Fin 2 → Nat) ![1, 1] ![M, 0] ![0, 0] ⟨2, ![M + 1, C]⟩)
    (j : Fin (M + 1)) (l : Fin C) :
    Ideal.hostReduceWindowAdd ![M + 1, 1] ![1, 1] ![M, 0] ![0, 0] h x 0 (ix2 j l) = ∑ b : Fin (M + 1), if b.val < j.val + 1 then x (ix2 b l) else 0 := by
  have hj := j.isLt
  have hl := l.isLt
  rw [Cert.Kernel5Ideal.Rank.sum_lt (fun b => x (ix2 b l)) (j.val + 1) (by omega), ← sum_shift (fun i => if h : i < M + 1 then x (ix2 ⟨i, h⟩ l) else 0) M j.val hj]
  unfold Ideal.hostReduceWindowAdd Host.reduceWindow
  refine (foldl_sum _).trans ((Finset.sum_congr rfl fun n _ => ?_).trans ((Fin.sum_univ_eq_sum_range
    (fun n => if M ≤ j.val + n then (if h : j.val + n - M < M + 1 then x (ix2 ⟨j.val + n - M, h⟩ l) else 0) else 0) _).trans
    (congrArg (fun N => ∑ n ∈ Finset.range N, if M ≤ j.val + n then (if h : j.val + n - M < M + 1 then x (ix2 ⟨j.val + n - M, h⟩ l) else 0) else 0) (Routing.numel_col (M + 1)))))
  have hn : n.val < M + 1 := lt_of_lt_of_eq n.isLt (Routing.numel_col (M + 1))
  have w0 : ((⟨2, ![M + 1, 1]⟩ : Shape).rowMajor.symm n 0).val = n.val := by rw [Routing.symm_col]; rfl
  have w1 : ((⟨2, ![M + 1, 1]⟩ : Shape).rowMajor.symm n 1).val = 0 := by rw [Routing.symm_col]; rfl
  by_cases hM : M ≤ j.val + n.val
  · have hlt : j.val + n.val - M < M + 1 := by omega
    rw [if_pos hM, dif_pos hlt]
    refine (dif_pos fun a => ?_).trans (congrArg x (funext fun a => Fin.ext ?_))
    · match a with
      | ⟨0, _⟩ => show M ≤ j.val * 1 + ((⟨2, ![M + 1, 1]⟩ : Shape).rowMajor.symm n 0).val ∧ j.val * 1 + ((⟨2, ![M + 1, 1]⟩ : Shape).rowMajor.symm n 0).val - M < M + 1; rw [w0]; omega
      | ⟨1, _⟩ => show 0 ≤ l.val * 1 + ((⟨2, ![M + 1, 1]⟩ : Shape).rowMajor.symm n 1).val ∧ l.val * 1 + ((⟨2, ![M + 1, 1]⟩ : Shape).rowMajor.symm n 1).val - 0 < C; rw [w1]; omega
    · match a with
      | ⟨0, _⟩ => show j.val * 1 + ((⟨2, ![M + 1, 1]⟩ : Shape).rowMajor.symm n 0).val - M = j.val + n.val - M; rw [w0, Nat.mul_one]
      | ⟨1, _⟩ => show l.val * 1 + ((⟨2, ![M + 1, 1]⟩ : Shape).rowMajor.symm n 1).val - 0 = l.val; rw [w1]; omega
  · rw [if_neg hM]
    refine dif_neg fun hin => hM ?_
    have h0 : M ≤ j.val * 1 + ((⟨2, ![M + 1, 1]⟩ : Shape).rowMajor.symm n 0).val := (hin 0).1
    rw [w0] at h0
    omega

/-- The sum up to and including a row is the sum before it and the row's own term. -/
theorem upTo_succ (f : Fin 8192 → EReal) (a : Fin 8192) : upTo f (a.val + 1) = upTo f a.val + f a := by
  have ha := a.isLt
  unfold upTo
  rw [Cert.Kernel5Ideal.Rank.sum_lt f _ (by omega), Cert.Kernel5Ideal.Rank.sum_lt f _ (by omega), Finset.sum_range_succ, dif_pos ha]

/-- A choice is a number. -/
theorem chosen_sub (s : EReal) (l : Fin 128) (u v : EReal) : s + chosen l u v - chosen l u v = s := by
  unfold chosen
  split_ifs
  · exact EReal.add_sub_cancel_right (b := 1)
  · exact EReal.add_sub_cancel_right (b := 0)

variable (A : S8192x128.Idx → EReal)

/-- A choice by a condition. -/
theorem select_of (p : Prop) [Decidable p] (x y : EReal) : Scalar.select (BitVec.ofBool (decide p)) x y = if p then x else y := by
  by_cases hp : p <;> simp [hp, Scalar.select_def]

/-- A row's first choice, compared with a column. -/
theorem v6_apply (a : Fin 8192) (l : Fin 128) :
    val_main_v6 (F := Ideal) A (ix2 a l) = BitVec.ofBool (decide (A (ix2 a (0 : Fin 128)) = ((l.val : ℝ) : EReal))) := by
  rw [val_main_v6_apply, val_main_v4_apply, val_main_v2_apply, val_main_v5_apply, val_main_v3_apply, val_main_v1_apply, val_main_v0_apply]
  refine congrArg₂ (fun u v : EReal => BitVec.ofBool (decide (u = v))) (congrArg A ?_) (lane_val l)
  funext x; apply Fin.ext; match x with
  | ⟨0, _⟩ => rfl
  | ⟨1, _⟩ => rfl

/-- A row's second choice, compared with a column. -/
theorem v11_apply (a : Fin 8192) (l : Fin 128) :
    val_main_v11 (F := Ideal) A (ix2 a l) = BitVec.ofBool (decide (A (ix2 a (1 : Fin 128)) = ((l.val : ℝ) : EReal))) := by
  rw [val_main_v11_apply, val_main_v9_apply, val_main_v7_apply, val_main_v10_apply, val_main_v8_apply, val_main_v1_apply, val_main_v0_apply]
  refine congrArg₂ (fun u v : EReal => BitVec.ofBool (decide (u = v))) (congrArg A ?_) (lane_val l)
  funext x; apply Fin.ext; match x with
  | ⟨0, _⟩ => rfl
  | ⟨1, _⟩ => rfl

/-- Either of two conditions, as a number. -/
theorem either (p q : Prop) [Decidable p] [Decidable q] :
    (FloatOps.uitofp (F := Ideal) .f32 (IntOp.ori (BitVec.ofBool (decide p)) (BitVec.ofBool (decide q))) : EReal) = if p ∨ q then 1 else 0 := by
  show (((IntOp.ori (BitVec.ofBool (decide p)) (BitVec.ofBool (decide q))).toNat : ℝ) : EReal) = _
  by_cases hp : p <;> by_cases hq : q <;> simp [hp, hq, IntOp.ori]

/-- The choices. -/
theorem v13_apply (a : Fin 8192) (l : Fin 128) : val_main_v13 (F := Ideal) A (ix2 a l) = ch A a l := by
  rw [val_main_v13_apply, val_main_v12_apply, v6_apply, v11_apply]
  unfold ch chosen
  exact (either _ _).trans (if_congr (or_congr eq_comm eq_comm) rfl rfl)

/-- The running counts. -/
theorem v14_apply (a : Fin 8192) (l : Fin 128) : val_main_v14 (F := Ideal) A (ix2 a l) = upTo (fun b => ch A b l) (a.val + 1) := by
  unfold val_main_v14 Host.reduceWindowAdd
  rw [Ideal.hostReduceWindowAdd_def, val_main_call0_call0_v0_apply, val_main_call0_call0_cst_apply]
  rw [show (FloatOps.ofBits .f32 0x00000000#32 : Ideal .f32) = (0 : EReal) from Ideal.ofBits_zero .f32]
  refine (running (M := 8191) (C := 128) _ _ a l).trans ?_
  unfold upTo
  refine Finset.sum_congr rfl fun b _ => ?_
  rw [v13_apply]

/-- The counts before a row. -/
theorem v15_apply (a : Fin 8192) (l : Fin 128) : val_main_v15 (F := Ideal) A (ix2 a l) = upTo (fun b => ch A b l) a.val := by
  rw [val_main_v15_apply, v14_apply, v13_apply, upTo_succ]
  exact chosen_sub _ _ _ _

/-- The first choice's rank. -/
theorem v17_apply (a : Fin 8192) : val_main_v17 (F := Ideal) A (ix1 a) = rankAt A a 0 := by
  rw [val_main_v17_apply, val_main_cst_0_apply]
  refine (congrArg (· + _) (Ideal.ofBits_zero .f32)).trans ((zero_add _).trans ?_)
  unfold rankAt pick
  refine Finset.sum_congr rfl fun l _ => ?_
  rw [show idx_main_v17 (ix1 a) l = ix2 a l from funext fun x => by match x with | ⟨0, _⟩ => rfl | ⟨1, _⟩ => rfl,
    val_main_v16_apply, v6_apply, v15_apply, val_main_call1_v1_apply, val_main_call1_v0_apply, val_main_cst_apply]
  exact (select_of _ _ _).trans (if_congr eq_comm rfl (Ideal.ofBits_zero .f32))

/-- The second choice's rank. -/
theorem v20_apply (a : Fin 8192) : val_main_v20 (F := Ideal) A (ix1 a) = rankAt A a 1 := by
  rw [val_main_v20_apply, val_main_cst_2_apply]
  refine (congrArg (· + _) (Ideal.ofBits_zero .f32)).trans ((zero_add _).trans ?_)
  unfold rankAt pick
  refine Finset.sum_congr rfl fun l _ => ?_
  rw [show idx_main_v20 (ix1 a) l = ix2 a l from funext fun x => by match x with | ⟨0, _⟩ => rfl | ⟨1, _⟩ => rfl,
    val_main_v19_apply, v11_apply, v15_apply, val_main_call2_v1_apply, val_main_call2_v0_apply, val_main_cst_1_apply]
  exact (select_of _ _ _).trans (if_congr eq_comm rfl (Ideal.ofBits_zero .f32))

/-- The counts. -/
theorem v25_eq : val_main_v25 (F := Ideal) A = countOut A := by
  funext j
  rw [val_main_v25_apply, val_main_v24_apply, val_main_cst_4_apply]
  refine (congrArg (· + _) (Ideal.ofBits_zero .f32)).trans ((zero_add _).trans ?_)
  unfold countOut
  refine Finset.sum_congr rfl fun b _ => ?_
  rw [← v13_apply]
  exact congrArg (val_main_v13 (F := Ideal) A) (funext fun x => by match x with | ⟨0, _⟩ => rfl | ⟨1, _⟩ => rfl)

/-- The array of ranks. -/
theorem v23_eq : val_main_v23 (F := Ideal) A = rankOut A := by
  funext j
  unfold val_main_v23
  pointwise
  unfold rankOut
  by_cases h0 : (j 1).val = 0
  · refine (dif_pos (by omega)).trans (Eq.trans ?_ (if_pos h0).symm)
    rw [val_main_v18_apply]
    exact (congrArg (val_main_v17 (F := Ideal) A) (funext fun x => by match x with | ⟨0, _⟩ => rfl)).trans (v17_apply A ⟨(j 0).val, (j 0).isLt⟩)
  · refine (dif_neg (by omega)).trans (Eq.trans ?_ (if_neg h0).symm)
    by_cases h1 : (j 1).val = 1
    · refine (dif_pos (by omega)).trans (Eq.trans ?_ (if_pos h1).symm)
      rw [val_main_v21_apply]
      exact (congrArg (val_main_v20 (F := Ideal) A) (funext fun x => by match x with | ⟨0, _⟩ => rfl)).trans (v20_apply A ⟨(j 0).val, (j 0).isLt⟩)
    · refine (dif_neg (by omega)).trans (Eq.trans ?_ (if_neg h1).symm)
      rw [val_main_v22_apply, val_main_cst_3_apply]
      exact Ideal.ofBits_zero .f32

end Cert.Reference5Ideal.Rank
-- ==== Proof.RankClaim.lean ====
/-
  The ranking's value claim, put together.
-/
module

public import proofs.«01_k».proof.Defs
public import proofs.«01_k».proof.Proof.RankRef
public import proofs.«01_k».proof.Proof.Gen.Reference5Ideal.Run

@[expose] public section

noncomputable section

open Idealize.ShloMosaic Idealize.ShloMosaic.TcCoe Idealize.SL.Sem

namespace Cert.Proof.Rank

/-- The reference runs, keeps its argument, and has no semaphore to leave nonzero. -/
theorem frame_r : Cert.quiescent_Reference5Ideal (hReference5Ideal := Cert.Reference5Ideal.Gen.facts) :=
  fun m ρ _ => (θ_run _ _ _).mono (fun r h => ⟨fun c => (h c).2.2, sem_eq_zero_of_no_sems (by decide) r.2⟩) (Cert.Reference5Ideal.Value.run (F := Ideal) m ρ)

/-- The ranking kernel computes the reference's ranks and its counts. -/
theorem algebraic : Cert.algebraic_Kernel5Ideal_Reference5Ideal (hKernel5Ideal := Cert.Kernel5Ideal.Gen.facts)
    (hReference5Ideal := Cert.Reference5Ideal.Gen.facts) := by
  intro m g m' g' hpre hagree
  refine ⟨fun c => (Cert.Kernel5Ideal.Gen.dats m 0 c).arrAt 1 Cert.Kernel5Ideal.cfg0.N, fun c => (Cert.Kernel5Ideal.Gen.dats m 0 c).arrAt 2 Cert.Kernel5Ideal.cfg0.N,
    Cert.Kernel5Ideal.Value.run_blocks m g, ?_⟩
  refine (θ_run _ _ _).mono (fun r h c => ⟨(h c).1.trans ?_, (h c).2.1.trans ?_, (h c).2.2⟩) (Cert.Reference5Ideal.Value.run m' g')
  · rw [Cert.Reference5Ideal.Read.val_main_v23_eq m' c, hagree c]
    exact (Cert.Reference5Ideal.Rank.v23_eq _).trans (Cert.Kernel5Ideal.Rank.arr1 m c).symm
  · rw [Cert.Reference5Ideal.Read.val_main_v25_eq, hagree c]
    exact (Cert.Reference5Ideal.Rank.v25_eq _).trans (Cert.Kernel5Ideal.Rank.arr2 m c).symm

end Cert.Proof.Rank
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel3.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.AttnClaim
public import proofs.«01_k».proof.Proof.ProjClaim
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.MergeClaim
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Ada
public import proofs.«01_k».proof.Proof.RankClaim
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Attn.preFacts,
  fun m ρ _ => Cert.Kernel.Gen.frame m ρ,
  fun m ρ _ => Cert.KernelIdeal.Gen.frame m ρ,
  fun m ρ _ => Cert.KernelIdeal.Gen.frame m ρ,
  fun m ρ _ => Attn.frame_r m ρ,
  fun m ρ _ => Attn.frame_r m ρ,
  fun m ρ _ => Cert.Kernel2.Gen.frame m ρ,
  fun m ρ _ => Cert.Kernel2Ideal.Gen.frame m ρ,
  Proj.frame_r,
  fun m ρ _ => Cert.Kernel3.Gen.frame m ρ,
  fun m ρ _ => Cert.Kernel3Ideal.Gen.frame m ρ,
  Merge.frame_r,
  fun m ρ _ => Cert.Kernel4.Gen.frame m ρ,
  fun m ρ _ => Cert.Kernel4Ideal.Gen.frame m ρ,
  Ada.frame_r,
  fun m ρ _ => Cert.Kernel5.Gen.frame m ρ,
  fun m ρ _ => Cert.Kernel5Ideal.Gen.frame m ρ,
  Rank.frame_r,
  IdealRules.named_const.statement Cert.KernelIdeal.κ "mask" .f32 0xF149F2CA#32 ⊥ rfl,
  Attn.algebraic,
  trivial,
  Proj.algebraic,
  trivial,
  Merge.algebraic,
  trivial,
  Ada.algebraic,
  trivial,
  Rank.algebraic⟩

end Cert.Proof

end
